-- ==== Defs.lean ====
def Pre_Kernel (m : (ℓ : Loc Cert.Kernel.nD Cert.Kernel.τ Cert.Kernel.sig) → Buf (Elt Bits) ℓ) : Prop :=
  True

def Pre_Kernel_finite_no_tie [hPre_finite_no_tie : Cert.Pre_finite_no_tie.Facts] (m : (ℓ : Loc Cert.Kernel.nD Cert.Kernel.τ Cert.Kernel.sig) → Buf (Elt Bits) ℓ) : Prop :=
  ∀ c : Dev Cert.Kernel.nD,
    (Cert.Pre_finite_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel_pre_finite_no_tie [hKernel : Cert.Kernel.Facts] [hPre_finite_no_tie : Cert.Pre_finite_no_tie.Facts] : Prop :=
  ∀ (m : (ℓ : Loc Cert.Kernel.nD Cert.Kernel.τ Cert.Kernel.sig) → Buf (Elt Bits) ℓ) (g : Dev Cert.Kernel.nD → PrngReg), Pre_Kernel_finite_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_Kernel_pre_finite_no_tie (hKernel := hKernel) (hPre_finite_no_tie := hPre_finite_no_tie)
    ∧ quiescent_KernelIdeal (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal (hKernelIdeal := hKernelIdeal) (hReferenceIdeal := hReferenceIdeal) (hPre_finite_no_tie := hPre_finite_no_tie)
-- ==== Pre_finite_no_tie.lean ====
abbrev S64x4x2048 : Shape := ⟨3, ![64, 4, 2048]⟩
abbrev S512x4x4 : Shape := ⟨3, ![512, 4, 4]⟩
abbrev S512 : Shape := ⟨1, ![512]⟩
abbrev S512x512x4 : Shape := ⟨3, ![512, 512, 4]⟩
abbrev S256x512x3 : Shape := ⟨3, ![256, 512, 3]⟩
abbrev S256 : Shape := ⟨1, ![256]⟩
abbrev S1024x256 : Shape := ⟨2, ![1024, 256]⟩
abbrev S_ : Shape := ⟨0, ![]⟩
abbrev S64x4x2050 : Shape := ⟨3, ![64, 4, 2050]⟩
abbrev S64x4x1024 : Shape := ⟨3, ![64, 4, 1024]⟩
abbrev S512x4x1 : Shape := ⟨3, ![512, 4, 1]⟩
abbrev S512x4 : Shape := ⟨2, ![512, 4]⟩
abbrev S512x64x1024 : Shape := ⟨3, ![512, 64, 1024]⟩
abbrev S64x512x1024 : Shape := ⟨3, ![64, 512, 1024]⟩
abbrev S1x512x1 : Shape := ⟨3, ![1, 512, 1]⟩
abbrev S64x512x1026 : Shape := ⟨3, ![64, 512, 1026]⟩
abbrev S64x512x512 : Shape := ⟨3, ![64, 512, 512]⟩
abbrev S512x512x1 : Shape := ⟨3, ![512, 512, 1]⟩
abbrev S512x512 : Shape := ⟨2, ![512, 512]⟩
abbrev S512x64x512 : Shape := ⟨3, ![512, 64, 512]⟩
abbrev S64x512x514 : Shape := ⟨3, ![64, 512, 514]⟩
abbrev S256x512x1 : Shape := ⟨3, ![256, 512, 1]⟩
abbrev S256x512 : Shape := ⟨2, ![256, 512]⟩
abbrev S256x64x512 : Shape := ⟨3, ![256, 64, 512]⟩
abbrev S64x256x512 : Shape := ⟨3, ![64, 256, 512]⟩
abbrev S1x256x1 : Shape := ⟨3, ![1, 256, 1]⟩
abbrev S64x512x256 : Shape := ⟨3, ![64, 512, 256]⟩
abbrev S64x512 : Shape := ⟨2, ![64, 512]⟩
abbrev S64x512x1 : Shape := ⟨3, ![64, 512, 1]⟩
abbrev S1024 : Shape := ⟨1, ![1024]⟩
abbrev S1x1x1024 : Shape := ⟨3, ![1, 1, 1024]⟩

class Facts : Prop where
  pads_S64x4x2048_S64x4x2050_000_000_110 : S64x4x2048.Pads (![0, 0, 1] : Fin 3 → Nat) ![0, 0, 1] ![0, 0, 0] S64x4x2050
  h_S_ : 0 < S_.numel
  slicesBy_S64x4x2050_S64x4x1024_0s1_0s1_0s2 : S64x4x2050.SlicesBy (![0, 0, 0] : Fin 3 → Nat) ![1, 1, 2] S64x4x1024
  slices_S512x4x4_S512x4x1_0_0_0 : S512x4x4.Slices ![0, 0, 0] S512x4x1
  shapeCasts_S512x4x1_S512x4 : S512x4x1.ShapeCasts S512x4
  transposes_S512x64x1024_S64x512x1024_1_0_2 : S512x64x1024.Transposes [1, 0, 2] S64x512x1024
  bcast_S_S64x512x1024 : S_.BroadcastsInDim S64x512x1024 (![] : Fin 0 → Fin S64x512x1024.rank)
  slicesBy_S64x4x2050_S64x4x1024_0s1_0s1_1s2 : S64x4x2050.SlicesBy (![0, 0, 1] : Fin 3 → Nat) ![1, 1, 2] S64x4x1024
  slices_S512x4x4_S512x4x1_0_0_1 : S512x4x4.Slices ![0, 0, 1] S512x4x1
  slicesBy_S64x4x2050_S64x4x1024_0s1_0s1_2s2 : S64x4x2050.SlicesBy (![0, 0, 2] : Fin 3 → Nat) ![1, 1, 2] S64x4x1024
  slices_S512x4x4_S512x4x1_0_0_2 : S512x4x4.Slices ![0, 0, 2] S512x4x1
  slicesBy_S64x4x2050_S64x4x1024_0s1_0s1_3s2 : S64x4x2050.SlicesBy (![0, 0, 3] : Fin 3 → Nat) ![1, 1, 2] S64x4x1024
  slices_S512x4x4_S512x4x1_0_0_3 : S512x4x4.Slices ![0, 0, 3] S512x4x1
  bcast_S512_S1x512x1_1 : S512.BroadcastsInDim S1x512x1 (![1] : Fin 1 → Fin S1x512x1.rank)
  bcast_S1x512x1_S64x512x1024_0_1_2 : S1x512x1.BroadcastsInDim S64x512x1024 (![0, 1, 2] : Fin 3 → Fin S64x512x1024.rank)
  pads_S64x512x1024_S64x512x1026_000_000_110 : S64x512x1024.Pads (![0, 0, 1] : Fin 3 → Nat) ![0, 0, 1] ![0, 0, 0] S64x512x1026
  slicesBy_S64x512x1026_S64x512x512_0s1_0s1_0s2 : S64x512x1026.SlicesBy (![0, 0, 0] : Fin 3 → Nat) ![1, 1, 2] S64x512x512
  slices_S512x512x4_S512x512x1_0_0_0 : S512x512x4.Slices ![0, 0, 0] S512x512x1
  shapeCasts_S512x512x1_S512x512 : S512x512x1.ShapeCasts S512x512
  transposes_S512x64x512_S64x512x512_1_0_2 : S512x64x512.Transposes [1, 0, 2] S64x512x512
  bcast_S_S64x512x512 : S_.BroadcastsInDim S64x512x512 (![] : Fin 0 → Fin S64x512x512.rank)
  slicesBy_S64x512x1026_S64x512x512_0s1_0s1_1s2 : S64x512x1026.SlicesBy (![0, 0, 1] : Fin 3 → Nat) ![1, 1, 2] S64x512x512
  slices_S512x512x4_S512x512x1_0_0_1 : S512x512x4.Slices ![0, 0, 1] S512x512x1
  slicesBy_S64x512x1026_S64x512x512_0s1_0s1_2s2 : S64x512x1026.SlicesBy (![0, 0, 2] : Fin 3 → Nat) ![1, 1, 2] S64x512x512
  slices_S512x512x4_S512x512x1_0_0_2 : S512x512x4.Slices ![0, 0, 2] S512x512x1
  slicesBy_S64x512x1026_S64x512x512_0s1_0s1_3s2 : S64x512x1026.SlicesBy (![0, 0, 3] : Fin 3 → Nat) ![1, 1, 2] S64x512x512
  slices_S512x512x4_S512x512x1_0_0_3 : S512x512x4.Slices ![0, 0, 3] S512x512x1
  bcast_S1x512x1_S64x512x512_0_1_2 : S1x512x1.BroadcastsInDim S64x512x512 (![0, 1, 2] : Fin 3 → Fin S64x512x512.rank)
  pads_S64x512x512_S64x512x514_000_000_110 : S64x512x512.Pads (![0, 0, 1] : Fin 3 → Nat) ![0, 0, 1] ![0, 0, 0] S64x512x514
  slices_S64x512x514_S64x512x512_0_0_0 : S64x512x514.Slices ![0, 0, 0] S64x512x512
  slices_S256x512x3_S256x512x1_0_0_0 : S256x512x3.Slices ![0, 0, 0] S256x512x1
  shapeCasts_S256x512x1_S256x512 : S256x512x1.ShapeCasts S256x512
  transposes_S256x64x512_S64x256x512_1_0_2 : S256x64x512.Transposes [1, 0, 2] S64x256x512
  bcast_S_S64x256x512 : S_.BroadcastsInDim S64x256x512 (![] : Fin 0 → Fin S64x256x512.rank)
  slices_S64x512x514_S64x512x512_0_0_1 : S64x512x514.Slices ![0, 0, 1] S64x512x512
  slices_S256x512x3_S256x512x1_0_0_1 : S256x512x3.Slices ![0, 0, 1] S256x512x1
  slices_S64x512x514_S64x512x512_0_0_2 : S64x512x514.Slices ![0, 0, 2] S64x512x512
  slices_S256x512x3_S256x512x1_0_0_2 : S256x512x3.Slices ![0, 0, 2] S256x512x1
  bcast_S256_S1x256x1_1 : S256.BroadcastsInDim S1x256x1 (![1] : Fin 1 → Fin S1x256x1.rank)
  bcast_S1x256x1_S64x256x512_0_1_2 : S1x256x1.BroadcastsInDim S64x256x512 (![0, 1, 2] : Fin 3 → Fin S64x256x512.rank)
  transposes_S64x256x512_S64x512x256_0_2_1 : S64x256x512.Transposes [0, 2, 1] S64x512x256
  reducesTo_S64x512x256_S64x512_d2 : S64x512x256.ReducesTo [2] S64x512
  bcast_S64x512_S64x512x1_0_1 : S64x512.BroadcastsInDim S64x512x1 (![0, 1] : Fin 2 → Fin S64x512x1.rank)
  bcast_S64x512x1_S64x512x1024_0_1_2 : S64x512x1.BroadcastsInDim S64x512x1024 (![0, 1, 2] : Fin 3 → Fin S64x512x1024.rank)
  reducesTo_S1024x256_S1024_d1 : S1024x256.ReducesTo [1] S1024
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  reducesTo_S64x512x1024_S64x512_d2 : S64x512x1024.ReducesTo [2] S64x512
  natLt_1_32 : 1 < 32
  bcast_S_S64x4x2048 : S_.BroadcastsInDim S64x4x2048 (![] : Fin 0 → Fin S64x4x2048.rank)
  reducesTo_S64x4x2048_S_d0_1_2 : S64x4x2048.ReducesTo [0, 1, 2] S_
  bcast_S_S512x4x4 : S_.BroadcastsInDim S512x4x4 (![] : Fin 0 → Fin S512x4x4.rank)
  reducesTo_S512x4x4_S_d0_1_2 : S512x4x4.ReducesTo [0, 1, 2] S_
  bcast_S_S512 : S_.BroadcastsInDim S512 (![] : Fin 0 → Fin S512.rank)
  reducesTo_S512_S_d0 : S512.ReducesTo [0] S_
  bcast_S_S512x512x4 : S_.BroadcastsInDim S512x512x4 (![] : Fin 0 → Fin S512x512x4.rank)
  reducesTo_S512x512x4_S_d0_1_2 : S512x512x4.ReducesTo [0, 1, 2] S_
  bcast_S_S256x512x3 : S_.BroadcastsInDim S256x512x3 (![] : Fin 0 → Fin S256x512x3.rank)
  reducesTo_S256x512x3_S_d0_1_2 : S256x512x3.ReducesTo [0, 1, 2] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S64x512 : S_.BroadcastsInDim S64x512 (![] : Fin 0 → Fin S64x512.rank)
  dot_S512x4_S64x4x1024_S512x64x1024_1_1_0_02_n_n_wf : DotDims.WF S512x4 S64x4x1024 S512x64x1024 [1] [1] [0] [0, 2] [] []
  dot_S512x512_S64x512x512_S512x64x512_1_1_0_02_n_n_wf : DotDims.WF S512x512 S64x512x512 S512x64x512 [1] [1] [0] [0, 2] [] []
  dot_S256x512_S64x512x512_S256x64x512_1_1_0_02_n_n_wf : DotDims.WF S256x512 S64x512x512 S256x64x512 [1] [1] [0] [0, 2] [] []
  dot_S64x512x256_S1024x256_S64x512x1024_2_1_01_0_n_n_wf : DotDims.WF S64x512x256 S1024x256 S64x512x1024 [2] [1] [0, 1] [0] [] []

variable [Facts]

def dot_S512x4_S64x4x1024_S512x64x1024_1_1_0_02_n_n : DotDims S512x4 S64x4x1024 S512x64x1024 where
  lhsContracting := [1]
  rhsContracting := [1]
  lhsNonContracting := [0]
  rhsNonContracting := [0, 2]
  lhsBatch := []
  rhsBatch := []
  wf := dot_S512x4_S64x4x1024_S512x64x1024_1_1_0_02_n_n_wf
def dot_S512x512_S64x512x512_S512x64x512_1_1_0_02_n_n : DotDims S512x512 S64x512x512 S512x64x512 where
  lhsContracting := [1]
  rhsContracting := [1]
  lhsNonContracting := [0]
  rhsNonContracting := [0, 2]
  lhsBatch := []
  rhsBatch := []
  wf := dot_S512x512_S64x512x512_S512x64x512_1_1_0_02_n_n_wf
def dot_S256x512_S64x512x512_S256x64x512_1_1_0_02_n_n : DotDims S256x512 S64x512x512 S256x64x512 where
  lhsContracting := [1]
  rhsContracting := [1]
  lhsNonContracting := [0]
  rhsNonContracting := [0, 2]
  lhsBatch := []
  rhsBatch := []
  wf := dot_S256x512_S64x512x512_S256x64x512_1_1_0_02_n_n_wf
def dot_S64x512x256_S1024x256_S64x512x1024_2_1_01_0_n_n : DotDims S64x512x256 S1024x256 S64x512x1024 where
  lhsContracting := [2]
  rhsContracting := [1]
  lhsNonContracting := [0, 1]
  rhsNonContracting := [0]
  lhsBatch := []
  rhsBatch := []
  wf := dot_S64x512x256_S1024x256_S64x512x1024_2_1_01_0_n_n_wf
def fn_pad {F : FTy → Type} [FloatOps F] (arg0 : FVec F S64x4x2048 .f32) (arg1 : IVec S_ 32) : FVec F S64x4x2050 .f32 :=
  let v0 : FVec F S_ .f32 := sitofp .f32 arg1
  let v1 : FVec F S64x4x2050 .f32 := (fun x v => pad S64x4x2050 ![0, 0, 1] ![0, 0, 1] ![0, 0, 0] x v pads_S64x4x2048_S64x4x2050_000_000_110 h_S_) arg0 v0
  v1

def fn_relu {F : FTy → Type} [FloatOps F] (arg0 : FVec F S64x512x1024 .f32) : FVec F S64x512x1024 .f32 :=
  let cst : FVec F S_ .f32 := constant S_ .f32 0x00000000#32
  let v0 : FVec F S64x512x1024 .f32 := broadcastInDim S64x512x1024 ![] bcast_S_S64x512x1024 cst
  let v1 : FVec F S64x512x1024 .f32 := maximumf arg0 v0
  v1

def fn_pad_0 {F : FTy → Type} [FloatOps F] (arg0 : FVec F S64x512x1024 .f32) (arg1 : IVec S_ 32) : FVec F S64x512x1026 .f32 :=
  let v0 : FVec F S_ .f32 := sitofp .f32 arg1
  let v1 : FVec F S64x512x1026 .f32 := (fun x v => pad S64x512x1026 ![0, 0, 1] ![0, 0, 1] ![0, 0, 0] x v pads_S64x512x1024_S64x512x1026_000_000_110 h_S_) arg0 v0
  v1

def fn_relu_1 {F : FTy → Type} [FloatOps F] (arg0 : FVec F S64x512x512 .f32) : FVec F S64x512x512 .f32 :=
  let cst : FVec F S_ .f32 := constant S_ .f32 0x00000000#32
  let v0 : FVec F S64x512x512 .f32 := broadcastInDim S64x512x512 ![] bcast_S_S64x512x512 cst
  let v1 : FVec F S64x512x512 .f32 := maximumf arg0 v0
  v1

def fn_pad_2 {F : FTy → Type} [FloatOps F] (arg0 : FVec F S64x512x512 .f32) (arg1 : IVec S_ 32) : FVec F S64x512x514 .f32 :=
  let v0 : FVec F S_ .f32 := sitofp .f32 arg1
  let v1 : FVec F S64x512x514 .f32 := (fun x v => pad S64x512x514 ![0, 0, 1] ![0, 0, 1] ![0, 0, 0] x v pads_S64x512x512_S64x512x514_000_000_110 h_S_) arg0 v0
  v1

def fn_part7 {F : FTy → Type} [FloatOps F] (main_v102 : IVec S64x512 32) (main_v136 : IVec S_ 1) (main_v140 : IVec S_ 1) : IVec S64x512 1 :=
  let main_v141 : IVec S_ 1 := andi main_v136 main_v140
  let main_c_25 : IVec S_ 32 := constantI S_ 32 1#32
  let main_v142 : IVec S64x512 32 := broadcastInDim S64x512 ![] bcast_S_S64x512 main_c_25
  let main_v143 : IVec S64x512 1 := cmpi .eq main_v102 main_v142
  let main_v144 : IVec S64x512 1 := broadcastInDim S64x512 ![] bcast_S_S64x512 main_v141
  let main_v145 : IVec S64x512 1 := andi main_v143 main_v144
  main_v145

def fn_part6 {F : FTy → Type} [FloatOps F] (main_arg5 : FVec F S256x512x3 .f32) (main_arg6 : FVec F S256 .f32) (main_arg7 : FVec F S1024x256 .f32) (main_v102 : IVec S64x512 32) (main_v121 : IVec S_ 1) (main_v122 : FVec F S512 .f32) (main_v123 : FVec F S512 .f32) : IVec S64x512 1 :=
  let main_v124 : IVec S512 1 := cmpf .olt main_v122 main_v123
  let main_c_18 : IVec S_ 1 := constantI S_ 1 1#1
  let main_v125 : IVec S_ 1 := (fun x v => Host.reduce IntOp.andi x v reducesTo_S512_S_d0 h_S_) main_v124 main_c_18
  let main_v126 : IVec S_ 1 := andi main_v121 main_v125
  let main_v127 : FVec F S256x512x3 .f32 := Host.absf main_arg5
  let main_cst_19 : FVec F S_ .f32 := constant S_ .f32 0x7F800000#32
  let main_v128 : FVec F S256x512x3 .f32 := broadcastInDim S256x512x3 ![] bcast_S_S256x512x3 main_cst_19
  let main_v129 : IVec S256x512x3 1 := cmpf .olt main_v127 main_v128
  let main_c_20 : IVec S_ 1 := constantI S_ 1 1#1
  let main_v130 : IVec S_ 1 := (fun x v => Host.reduce IntOp.andi x v reducesTo_S256x512x3_S_d0_1_2 h_S_) main_v129 main_c_20
  let main_v131 : IVec S_ 1 := andi main_v126 main_v130
  let main_v132 : FVec F S256 .f32 := Host.absf main_arg6
  let main_cst_21 : FVec F S_ .f32 := constant S_ .f32 0x7F800000#32
  let main_v133 : FVec F S256 .f32 := broadcastInDim S256 ![] bcast_S_S256 main_cst_21
  let main_v134 : IVec S256 1 := cmpf .olt main_v132 main_v133
  let main_c_22 : IVec S_ 1 := constantI S_ 1 1#1
  let main_v135 : IVec S_ 1 := (fun x v => Host.reduce IntOp.andi x v reducesTo_S256_S_d0 h_S_) main_v134 main_c_22
  let main_v136 : IVec S_ 1 := andi main_v131 main_v135
  let main_v137 : FVec F S1024x256 .f32 := Host.absf main_arg7
  let main_cst_23 : FVec F S_ .f32 := constant S_ .f32 0x7F800000#32
  let main_v138 : FVec F S1024x256 .f32 := broadcastInDim S1024x256 ![] bcast_S_S1024x256 main_cst_23
  let main_v139 : IVec S1024x256 1 := cmpf .olt main_v137 main_v138
  let main_c_24 : IVec S_ 1 := constantI S_ 1 1#1
  let main_v140 : IVec S_ 1 := (fun x v => Host.reduce IntOp.andi x v reducesTo_S1024x256_S_d0_1 h_S_) main_v139 main_c_24
  fn_part7 (F := F) main_v102 main_v136 main_v140

def fn_part5 {F : FTy → Type} [FloatOps F] (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) (main_v102 : IVec S64x512 32) (main_v106 : IVec S_ 1) : IVec S64x512 1 :=
  let main_v107 : FVec F S512x4x4 .f32 := Host.absf main_arg1
  let main_cst_11 : FVec F S_ .f32 := constant S_ .f32 0x7F800000#32
  let main_v108 : FVec F S512x4x4 .f32 := broadcastInDim S512x4x4 ![] bcast_S_S512x4x4 main_cst_11
  let main_v109 : IVec S512x4x4 1 := cmpf .olt main_v107 main_v108
  let main_c_12 : IVec S_ 1 := constantI S_ 1 1#1
  let main_v110 : IVec S_ 1 := (fun x v => Host.reduce IntOp.andi x v reducesTo_S512x4x4_S_d0_1_2 h_S_) main_v109 main_c_12
  let main_v111 : IVec S_ 1 := andi main_v106 main_v110
  let main_v112 : FVec F S512 .f32 := Host.absf main_arg2
  let main_cst_13 : FVec F S_ .f32 := constant S_ .f32 0x7F800000#32
  let main_v113 : FVec F S512 .f32 := broadcastInDim S512 ![] bcast_S_S512 main_cst_13
  let main_v114 : IVec S512 1 := cmpf .olt main_v112 main_v113
  let main_c_14 : IVec S_ 1 := constantI S_ 1 1#1
  let main_v115 : IVec S_ 1 := (fun x v => Host.reduce IntOp.andi x v reducesTo_S512_S_d0 h_S_) main_v114 main_c_14
  let main_v116 : IVec S_ 1 := andi main_v111 main_v115
  let main_v117 : FVec F S512x512x4 .f32 := Host.absf main_arg3
  let main_cst_15 : FVec F S_ .f32 := constant S_ .f32 0x7F800000#32
  let main_v118 : FVec F S512x512x4 .f32 := broadcastInDim S512x512x4 ![] bcast_S_S512x512x4 main_cst_15
  let main_v119 : IVec S512x512x4 1 := cmpf .olt main_v117 main_v118
  let main_c_16 : IVec S_ 1 := constantI S_ 1 1#1
  let main_v120 : IVec S_ 1 := (fun x v => Host.reduce IntOp.andi x v reducesTo_S512x512x4_S_d0_1_2 h_S_) main_v119 main_c_16
  let main_v121 : IVec S_ 1 := andi main_v116 main_v120
  let main_v122 : FVec F S512 .f32 := Host.absf main_arg4
  let main_cst_17 : FVec F S_ .f32 := constant S_ .f32 0x7F800000#32
  let main_v123 : FVec F S512 .f32 := broadcastInDim S512 ![] bcast_S_S512 main_cst_17
  fn_part6 (F := F) main_arg5 main_arg6 main_arg7 main_v102 main_v121 main_v122 main_v123

def fn_part4 {F : FTy → Type} [FloatOps F] (main_arg0 : FVec F S64x4x2048 .f32) (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) (main_v86 : FVec F S64x512x1 .f32) (main_v87 : FVec F S64x512x1024 .f32) (main_cst_5 : FVec F S_ .f32) : IVec S64x512 1 :=
  let main_v88 : FVec F S64x512x1024 .f32 := broadcastInDim S64x512x1024 ![] bcast_S_S64x512x1024 main_cst_5
  let main_v89 : FVec F S64x512x1024 .f32 := mulf main_v88 main_v87
  let main_v90 : FVec F S64x512x1024 .f32 := broadcastInDim S64x512x1024 ![0, 1, 2] bcast_S64x512x1_S64x512x1024_0_1_2 main_v86
  let main_v91 : FVec F S64x512x1024 .f32 := subf main_v90 main_v89
  let main_v92 : FVec F S1024x256 .f32 := mulf main_arg7 main_arg7
  let main_cst_6 : FVec F S_ .f32 := constant S_ .f32 0x00000000#32
  let main_v93 : FVec F S1024 .f32 := (fun x v => Host.reduceAdd x v reducesTo_S1024x256_S1024_d1 h_S_) main_v92 main_cst_6
  let main_v94 : FVec F S1x1x1024 .f32 := broadcastInDim S1x1x1024 ![2] bcast_S1024_S1x1x1024_2 main_v93
  let main_v95 : FVec F S64x512x1024 .f32 := broadcastInDim S64x512x1024 ![0, 1, 2] bcast_S1x1x1024_S64x512x1024_0_1_2 main_v94
  let main_v96 : FVec F S64x512x1024 .f32 := addf main_v91 main_v95
  let main_cst_7 : FVec F S_ .f32 := constant S_ .f32 0x7F800000#32
  let main_v97 : FVec F S64x512 .f32 := (fun x v => Host.reduce FloatOps.minimumf x v reducesTo_S64x512x1024_S64x512_d2 h_S_) main_v96 main_cst_7
  let main_v98 : FVec F S64x512x1 .f32 := broadcastInDim S64x512x1 ![0, 1] bcast_S64x512_S64x512x1_0_1 main_v97
  let main_v99 : FVec F S64x512x1024 .f32 := broadcastInDim S64x512x1024 ![0, 1, 2] bcast_S64x512x1_S64x512x1024_0_1_2 main_v98
  let main_v100 : IVec S64x512x1024 1 := cmpf .oeq main_v96 main_v99
  let main_v101 : IVec S64x512x1024 32 := (extui 32 · natLt_1_32) main_v100
  let main_c_8 : IVec S_ 32 := constantI S_ 32 0#32
  let main_v102 : IVec S64x512 32 := (fun x v => Host.reduce IntOp.addi x v reducesTo_S64x512x1024_S64x512_d2 h_S_) main_v101 main_c_8
  let main_v103 : FVec F S64x4x2048 .f32 := Host.absf main_arg0
  let main_cst_9 : FVec F S_ .f32 := constant S_ .f32 0x7F800000#32
  let main_v104 : FVec F S64x4x2048 .f32 := broadcastInDim S64x4x2048 ![] bcast_S_S64x4x2048 main_cst_9
  let main_v105 : IVec S64x4x2048 1 := cmpf .olt main_v103 main_v104
  let main_c_10 : IVec S_ 1 := constantI S_ 1 1#1
  let main_v106 : IVec S_ 1 := (fun x v => Host.reduce IntOp.andi x v reducesTo_S64x4x2048_S_d0_1_2 h_S_) main_v105 main_c_10
  fn_part5 (F := F) main_arg1 main_arg2 main_arg3 main_arg4 main_arg5 main_arg6 main_arg7 main_v102 main_v106

def fn_part3 {F : FTy → Type} [FloatOps F] (main_arg0 : FVec F S64x4x2048 .f32) (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) (main_v60 : FVec F S64x512x514 .f32) (main_v65 : FVec F S64x256x512 .f32) (main_cst_3 : FVec F S_ .f32) : IVec S64x512 1 :=
  let main_v66 : FVec F S64x256x512 .f32 := broadcastInDim S64x256x512 ![] bcast_S_S64x256x512 main_cst_3
  let main_v67 : FVec F S64x256x512 .f32 := addf main_v66 main_v65
  let main_v68 : FVec F S64x512x512 .f32 := (extractStridedSlice S64x512x512 ![0, 0, 1] · slices_S64x512x514_S64x512x512_0_0_1) main_v60
  let main_v69 : FVec F S256x512x1 .f32 := (extractStridedSlice S256x512x1 ![0, 0, 1] · slices_S256x512x3_S256x512x1_0_0_1) main_arg5
  let main_v70 : FVec F S256x512 .f32 := shapeCast S256x512 main_v69 shapeCasts_S256x512x1_S256x512
  let main_v71 : FVec F S256x64x512 .f32 := (fun l r => Host.dotGeneral dot_S256x512_S64x512x512_S256x64x512_1_1_0_02_n_n none l r) main_v70 main_v68
  let main_v72 : FVec F S64x256x512 .f32 := (transpose S64x256x512 [1, 0, 2] · transposes_S256x64x512_S64x256x512_1_0_2) main_v71
  let main_v73 : FVec F S64x256x512 .f32 := addf main_v67 main_v72
  let main_v74 : FVec F S64x512x512 .f32 := (extractStridedSlice S64x512x512 ![0, 0, 2] · slices_S64x512x514_S64x512x512_0_0_2) main_v60
  let main_v75 : FVec F S256x512x1 .f32 := (extractStridedSlice S256x512x1 ![0, 0, 2] · slices_S256x512x3_S256x512x1_0_0_2) main_arg5
  let main_v76 : FVec F S256x512 .f32 := shapeCast S256x512 main_v75 shapeCasts_S256x512x1_S256x512
  let main_v77 : FVec F S256x64x512 .f32 := (fun l r => Host.dotGeneral dot_S256x512_S64x512x512_S256x64x512_1_1_0_02_n_n none l r) main_v76 main_v74
  let main_v78 : FVec F S64x256x512 .f32 := (transpose S64x256x512 [1, 0, 2] · transposes_S256x64x512_S64x256x512_1_0_2) main_v77
  let main_v79 : FVec F S64x256x512 .f32 := addf main_v73 main_v78
  let main_v80 : FVec F S1x256x1 .f32 := broadcastInDim S1x256x1 ![1] bcast_S256_S1x256x1_1 main_arg6
  let main_v81 : FVec F S64x256x512 .f32 := broadcastInDim S64x256x512 ![0, 1, 2] bcast_S1x256x1_S64x256x512_0_1_2 main_v80
  let main_v82 : FVec F S64x256x512 .f32 := addf main_v79 main_v81
  let main_v83 : FVec F S64x512x256 .f32 := (transpose S64x512x256 [0, 2, 1] · transposes_S64x256x512_S64x512x256_0_2_1) main_v82
  let main_v84 : FVec F S64x512x256 .f32 := mulf main_v83 main_v83
  let main_cst_4 : FVec F S_ .f32 := constant S_ .f32 0x00000000#32
  let main_v85 : FVec F S64x512 .f32 := (fun x v => Host.reduceAdd x v reducesTo_S64x512x256_S64x512_d2 h_S_) main_v84 main_cst_4
  let main_v86 : FVec F S64x512x1 .f32 := broadcastInDim S64x512x1 ![0, 1] bcast_S64x512_S64x512x1_0_1 main_v85
  let main_v87 : FVec F S64x512x1024 .f32 := (fun l r => Host.dotGeneral dot_S64x512x256_S1024x256_S64x512x1024_2_1_01_0_n_n none l r) main_v83 main_arg7
  let main_cst_5 : FVec F S_ .f32 := constant S_ .f32 0x40000000#32
  fn_part4 (F := F) main_arg0 main_arg1 main_arg2 main_arg3 main_arg4 main_arg5 main_arg6 main_arg7 main_v86 main_v87 main_cst_5

def fn_part2 {F : FTy → Type} [FloatOps F] (main_arg0 : FVec F S64x4x2048 .f32) (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) (main_v30 : FVec F S64x512x1026 .f32) (main_v43 : FVec F S64x512x512 .f32) : IVec S64x512 1 :=
  let main_v44 : FVec F S64x512x512 .f32 := (Host.slice S64x512x512 ![0, 0, 2] ![1, 1, 2] · slicesBy_S64x512x1026_S64x512x512_0s1_0s1_2s2) main_v30
  let main_v45 : FVec F S512x512x1 .f32 := (extractStridedSlice S512x512x1 ![0, 0, 2] · slices_S512x512x4_S512x512x1_0_0_2) main_arg3
  let main_v46 : FVec F S512x512 .f32 := shapeCast S512x512 main_v45 shapeCasts_S512x512x1_S512x512
  let main_v47 : FVec F S512x64x512 .f32 := (fun l r => Host.dotGeneral dot_S512x512_S64x512x512_S512x64x512_1_1_0_02_n_n none l r) main_v46 main_v44
  let main_v48 : FVec F S64x512x512 .f32 := (transpose S64x512x512 [1, 0, 2] · transposes_S512x64x512_S64x512x512_1_0_2) main_v47
  let main_v49 : FVec F S64x512x512 .f32 := addf main_v43 main_v48
  let main_v50 : FVec F S64x512x512 .f32 := (Host.slice S64x512x512 ![0, 0, 3] ![1, 1, 2] · slicesBy_S64x512x1026_S64x512x512_0s1_0s1_3s2) main_v30
  let main_v51 : FVec F S512x512x1 .f32 := (extractStridedSlice S512x512x1 ![0, 0, 3] · slices_S512x512x4_S512x512x1_0_0_3) main_arg3
  let main_v52 : FVec F S512x512 .f32 := shapeCast S512x512 main_v51 shapeCasts_S512x512x1_S512x512
  let main_v53 : FVec F S512x64x512 .f32 := (fun l r => Host.dotGeneral dot_S512x512_S64x512x512_S512x64x512_1_1_0_02_n_n none l r) main_v52 main_v50
  let main_v54 : FVec F S64x512x512 .f32 := (transpose S64x512x512 [1, 0, 2] · transposes_S512x64x512_S64x512x512_1_0_2) main_v53
  let main_v55 : FVec F S64x512x512 .f32 := addf main_v49 main_v54
  let main_v56 : FVec F S1x512x1 .f32 := broadcastInDim S1x512x1 ![1] bcast_S512_S1x512x1_1 main_arg4
  let main_v57 : FVec F S64x512x512 .f32 := broadcastInDim S64x512x512 ![0, 1, 2] bcast_S1x512x1_S64x512x512_0_1_2 main_v56
  let main_v58 : FVec F S64x512x512 .f32 := addf main_v55 main_v57
  let main_v59 : FVec F S64x512x512 .f32 := fn_relu_1 (F := F) main_v58
  let main_c_2 : IVec S_ 32 := constantI S_ 32 0#32
  let main_v60 : FVec F S64x512x514 .f32 := fn_pad_2 (F := F) main_v59 main_c_2
  let main_v61 : FVec F S64x512x512 .f32 := (extractStridedSlice S64x512x512 ![0, 0, 0] · slices_S64x512x514_S64x512x512_0_0_0) main_v60
  let main_v62 : FVec F S256x512x1 .f32 := (extractStridedSlice S256x512x1 ![0, 0, 0] · slices_S256x512x3_S256x512x1_0_0_0) main_arg5
  let main_v63 : FVec F S256x512 .f32 := shapeCast S256x512 main_v62 shapeCasts_S256x512x1_S256x512
  let main_v64 : FVec F S256x64x512 .f32 := (fun l r => Host.dotGeneral dot_S256x512_S64x512x512_S256x64x512_1_1_0_02_n_n none l r) main_v63 main_v61
  let main_v65 : FVec F S64x256x512 .f32 := (transpose S64x256x512 [1, 0, 2] · transposes_S256x64x512_S64x256x512_1_0_2) main_v64
  let main_cst_3 : FVec F S_ .f32 := constant S_ .f32 0x00000000#32
  fn_part3 (F := F) main_arg0 main_arg1 main_arg2 main_arg3 main_arg4 main_arg5 main_arg6 main_arg7 main_v60 main_v65 main_cst_3

def fn_part1 {F : FTy → Type} [FloatOps F] (main_arg0 : FVec F S64x4x2048 .f32) (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) (main_v19 : FVec F S64x512x1024 .f32) (main_v20 : FVec F S64x4x1024 .f32) (main_v21 : FVec F S512x4x1 .f32) : IVec S64x512 1 :=
  let main_v22 : FVec F S512x4 .f32 := shapeCast S512x4 main_v21 shapeCasts_S512x4x1_S512x4
  let main_v23 : FVec F S512x64x1024 .f32 := (fun l r => Host.dotGeneral dot_S512x4_S64x4x1024_S512x64x1024_1_1_0_02_n_n none l r) main_v22 main_v20
  let main_v24 : FVec F S64x512x1024 .f32 := (transpose S64x512x1024 [1, 0, 2] · transposes_S512x64x1024_S64x512x1024_1_0_2) main_v23
  let main_v25 : FVec F S64x512x1024 .f32 := addf main_v19 main_v24
  let main_v26 : FVec F S1x512x1 .f32 := broadcastInDim S1x512x1 ![1] bcast_S512_S1x512x1_1 main_arg2
  let main_v27 : FVec F S64x512x1024 .f32 := broadcastInDim S64x512x1024 ![0, 1, 2] bcast_S1x512x1_S64x512x1024_0_1_2 main_v26
  let main_v28 : FVec F S64x512x1024 .f32 := addf main_v25 main_v27
  let main_v29 : FVec F S64x512x1024 .f32 := fn_relu (F := F) main_v28
  let main_c_0 : IVec S_ 32 := constantI S_ 32 0#32
  let main_v30 : FVec F S64x512x1026 .f32 := fn_pad_0 (F := F) main_v29 main_c_0
  let main_v31 : FVec F S64x512x512 .f32 := (Host.slice S64x512x512 ![0, 0, 0] ![1, 1, 2] · slicesBy_S64x512x1026_S64x512x512_0s1_0s1_0s2) main_v30
  let main_v32 : FVec F S512x512x1 .f32 := (extractStridedSlice S512x512x1 ![0, 0, 0] · slices_S512x512x4_S512x512x1_0_0_0) main_arg3
  let main_v33 : FVec F S512x512 .f32 := shapeCast S512x512 main_v32 shapeCasts_S512x512x1_S512x512
  let main_v34 : FVec F S512x64x512 .f32 := (fun l r => Host.dotGeneral dot_S512x512_S64x512x512_S512x64x512_1_1_0_02_n_n none l r) main_v33 main_v31
  let main_v35 : FVec F S64x512x512 .f32 := (transpose S64x512x512 [1, 0, 2] · transposes_S512x64x512_S64x512x512_1_0_2) main_v34
  let main_cst_1 : FVec F S_ .f32 := constant S_ .f32 0x00000000#32
  let main_v36 : FVec F S64x512x512 .f32 := broadcastInDim S64x512x512 ![] bcast_S_S64x512x512 main_cst_1
  let main_v37 : FVec F S64x512x512 .f32 := addf main_v36 main_v35
  let main_v38 : FVec F S64x512x512 .f32 := (Host.slice S64x512x512 ![0, 0, 1] ![1, 1, 2] · slicesBy_S64x512x1026_S64x512x512_0s1_0s1_1s2) main_v30
  let main_v39 : FVec F S512x512x1 .f32 := (extractStridedSlice S512x512x1 ![0, 0, 1] · slices_S512x512x4_S512x512x1_0_0_1) main_arg3
  let main_v40 : FVec F S512x512 .f32 := shapeCast S512x512 main_v39 shapeCasts_S512x512x1_S512x512
  let main_v41 : FVec F S512x64x512 .f32 := (fun l r => Host.dotGeneral dot_S512x512_S64x512x512_S512x64x512_1_1_0_02_n_n none l r) main_v40 main_v38
  let main_v42 : FVec F S64x512x512 .f32 := (transpose S64x512x512 [1, 0, 2] · transposes_S512x64x512_S64x512x512_1_0_2) main_v41
  let main_v43 : FVec F S64x512x512 .f32 := addf main_v37 main_v42
  fn_part2 (F := F) main_arg0 main_arg1 main_arg2 main_arg3 main_arg4 main_arg5 main_arg6 main_arg7 main_v30 main_v43

def fn {F : FTy → Type} [FloatOps F] (main_arg0 : FVec F S64x4x2048 .f32) (main_arg1 : FVec F S512x4x4 .f32) (main_arg2 : FVec F S512 .f32) (main_arg3 : FVec F S512x512x4 .f32) (main_arg4 : FVec F S512 .f32) (main_arg5 : FVec F S256x512x3 .f32) (main_arg6 : FVec F S256 .f32) (main_arg7 : FVec F S1024x256 .f32) : IVec S64x512 1 :=
  let main_c : IVec S_ 32 := constantI S_ 32 0#32
  let main_v0 : FVec F S64x4x2050 .f32 := fn_pad (F := F) main_arg0 main_c
  let main_v1 : FVec F S64x4x1024 .f32 := (Host.slice S64x4x1024 ![0, 0, 0] ![1, 1, 2] · slicesBy_S64x4x2050_S64x4x1024_0s1_0s1_0s2) main_v0
  let main_v2 : FVec F S512x4x1 .f32 := (extractStridedSlice S512x4x1 ![0, 0, 0] · slices_S512x4x4_S512x4x1_0_0_0) main_arg1
  let main_v3 : FVec F S512x4 .f32 := shapeCast S512x4 main_v2 shapeCasts_S512x4x1_S512x4
  let main_v4 : FVec F S512x64x1024 .f32 := (fun l r => Host.dotGeneral dot_S512x4_S64x4x1024_S512x64x1024_1_1_0_02_n_n none l r) main_v3 main_v1
  let main_v5 : FVec F S64x512x1024 .f32 := (transpose S64x512x1024 [1, 0, 2] · transposes_S512x64x1024_S64x512x1024_1_0_2) main_v4
  let main_cst : FVec F S_ .f32 := constant S_ .f32 0x00000000#32
  let main_v6 : FVec F S64x512x1024 .f32 := broadcastInDim S64x512x1024 ![] bcast_S_S64x512x1024 main_cst
  let main_v7 : FVec F S64x512x1024 .f32 := addf main_v6 main_v5
  let main_v8 : FVec F S64x4x1024 .f32 := (Host.slice S64x4x1024 ![0, 0, 1] ![1, 1, 2] · slicesBy_S64x4x2050_S64x4x1024_0s1_0s1_1s2) main_v0
  let main_v9 : FVec F S512x4x1 .f32 := (extractStridedSlice S512x4x1 ![0, 0, 1] · slices_S512x4x4_S512x4x1_0_0_1) main_arg1
  let main_v10 : FVec F S512x4 .f32 := shapeCast S512x4 main_v9 shapeCasts_S512x4x1_S512x4
  let main_v11 : FVec F S512x64x1024 .f32 := (fun l r => Host.dotGeneral dot_S512x4_S64x4x1024_S512x64x1024_1_1_0_02_n_n none l r) main_v10 main_v8
  let main_v12 : FVec F S64x512x1024 .f32 := (transpose S64x512x1024 [1, 0, 2] · transposes_S512x64x1024_S64x512x1024_1_0_2) main_v11
  let main_v13 : FVec F S64x512x1024 .f32 := addf main_v7 main_v12
  let main_v14 : FVec F S64x4x1024 .f32 := (Host.slice S64x4x1024 ![0, 0, 2] ![1, 1, 2] · slicesBy_S64x4x2050_S64x4x1024_0s1_0s1_2s2) main_v0
  let main_v15 : FVec F S512x4x1 .f32 := (extractStridedSlice S512x4x1 ![0, 0, 2] · slices_S512x4x4_S512x4x1_0_0_2) main_arg1
  let main_v16 : FVec F S512x4 .f32 := shapeCast S512x4 main_v15 shapeCasts_S512x4x1_S512x4
  let main_v17 : FVec F S512x64x1024 .f32 := (fun l r => Host.dotGeneral dot_S512x4_S64x4x1024_S512x64x1024_1_1_0_02_n_n none l r) main_v16 main_v14
  let main_v18 : FVec F S64x512x1024 .f32 := (transpose S64x512x1024 [1, 0, 2] · transposes_S512x64x1024_S64x512x1024_1_0_2) main_v17
  let main_v19 : FVec F S64x512x1024 .f32 := addf main_v13 main_v18
  let main_v20 : FVec F S64x4x1024 .f32 := (Host.slice S64x4x1024 ![0, 0, 3] ![1, 1, 2] · slicesBy_S64x4x2050_S64x4x1024_0s1_0s1_3s2) main_v0
  let main_v21 : FVec F S512x4x1 .f32 := (extractStridedSlice S512x4x1 ![0, 0, 3] · slices_S512x4x4_S512x4x1_0_0_3) main_arg1
  fn_part1 (F := F) main_arg0 main_arg1 main_arg2 main_arg3 main_arg4 main_arg5 main_arg6 main_arg7 main_v19 main_v20 main_v21
-- ==== Kernel.lean ====
abbrev S64x4x2048 : Shape := ⟨3, ![64, 4, 2048]⟩
abbrev S512x4x4 : Shape := ⟨3, ![512, 4, 4]⟩
abbrev S512 : Shape := ⟨1, ![512]⟩
abbrev S512x512x4 : Shape := ⟨3, ![512, 512, 4]⟩
abbrev S256x512x3 : Shape := ⟨3, ![256, 512, 3]⟩
abbrev S256 : Shape := ⟨1, ![256]⟩
abbrev S1024x256 : Shape := ⟨2, ![1024, 256]⟩
abbrev S4x4x512 : Shape := ⟨3, ![4, 4, 512]⟩
abbrev S16x512 : Shape := ⟨2, ![16, 512]⟩
abbrev S4x512x512 : Shape := ⟨3, ![4, 512, 512]⟩
abbrev S2048x512 : Shape := ⟨2, ![2048, 512]⟩
abbrev S3x512x256 : Shape := ⟨3, ![3, 512, 256]⟩
abbrev S1536x256 : Shape := ⟨2, ![1536, 256]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S1x512 : Shape := ⟨2, ![1, 512]⟩
abbrev S1x256 : Shape := ⟨2, ![1, 256]⟩
abbrev S8x8x512 : Shape := ⟨3, ![8, 8, 512]⟩
abbrev S8x4x2048 : Shape := ⟨3, ![8, 4, 2048]⟩
abbrev S1x8x512 : Shape := ⟨3, ![1, 8, 512]⟩
abbrev S1x4x2048 : Shape := ⟨3, ![1, 4, 2048]⟩
abbrev S4x2048 : Shape := ⟨2, ![4, 2048]⟩
abbrev S4x1 : Shape := ⟨2, ![4, 1]⟩
abbrev S4x2047 : Shape := ⟨2, ![4, 2047]⟩
abbrev S4x2046 : Shape := ⟨2, ![4, 2046]⟩
abbrev S16x2048 : Shape := ⟨2, ![16, 2048]⟩
abbrev S128x2048 : Shape := ⟨2, ![128, 2048]⟩
abbrev S2048x128 : Shape := ⟨2, ![2048, 128]⟩
abbrev S512x4x128 : Shape := ⟨3, ![512, 4, 128]⟩
abbrev S512x1x128 : Shape := ⟨3, ![512, 1, 128]⟩
abbrev S512x128 : Shape := ⟨2, ![512, 128]⟩
abbrev S512x16 : Shape := ⟨2, ![512, 16]⟩
abbrev S8192x16 : Shape := ⟨2, ![8192, 16]⟩
abbrev S8192x512 : Shape := ⟨2, ![8192, 512]⟩
abbrev S4096x512 : Shape := ⟨2, ![4096, 512]⟩
abbrev S511x512 : Shape := ⟨2, ![511, 512]⟩
abbrev S512x512 : Shape := ⟨2, ![512, 512]⟩
abbrev S512x256 : Shape := ⟨2, ![512, 256]⟩
abbrev S4096x256 : Shape := ⟨2, ![4096, 256]⟩
abbrev S4096x1024 : Shape := ⟨2, ![4096, 1024]⟩
abbrev S512x1024 : Shape := ⟨2, ![512, 1024]⟩
abbrev S8x512 : Shape := ⟨2, ![8, 512]⟩
abbrev S64x512 : Shape := ⟨2, ![64, 512]⟩

abbrev nBuf : Space → Nat
  | .hbm => 27
  | .vmem => 12
  | .smem => 0
  | _ => 0

abbrev bufTy : (tb : Table) → Fin (tcTables nBuf tb) → BufTy
  | .hbm, ⟨0, _⟩ => ⟨S64x4x2048, .f32⟩
  | .hbm, ⟨1, _⟩ => ⟨S512x4x4, .f32⟩
  | .hbm, ⟨2, _⟩ => ⟨S512, .f32⟩
  | .hbm, ⟨3, _⟩ => ⟨S512x512x4, .f32⟩
  | .hbm, ⟨4, _⟩ => ⟨S512, .f32⟩
  | .hbm, ⟨5, _⟩ => ⟨S256x512x3, .f32⟩
  | .hbm, ⟨6, _⟩ => ⟨S256, .f32⟩
  | .hbm, ⟨7, _⟩ => ⟨S1024x256, .f32⟩
  | .hbm, ⟨8, _⟩ => ⟨S4x4x512, .f32⟩
  | .hbm, ⟨9, _⟩ => ⟨S16x512, .f32⟩
  | .hbm, ⟨10, _⟩ => ⟨S4x512x512, .f32⟩
  | .hbm, ⟨11, _⟩ => ⟨S2048x512, .f32⟩
  | .hbm, ⟨12, _⟩ => ⟨S3x512x256, .f32⟩
  | .hbm, ⟨13, _⟩ => ⟨S1536x256, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S1024x256, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S1x512, .f32⟩
  | .hbm, ⟨23, _⟩ => ⟨S1x512, .f32⟩
  | .hbm, ⟨24, _⟩ => ⟨S1x256, .f32⟩
  | .hbm, ⟨25, _⟩ => ⟨S8x8x512, .i32⟩
  | .hbm, ⟨26, _⟩ => ⟨S64x512, .i32⟩
  | .local _ .vmem, ⟨0, _⟩ => ⟨S8x4x2048, .f32⟩
  | .local _ .vmem, ⟨1, _⟩ => ⟨S8x4x2048, .f32⟩
  | .local _ .vmem, ⟨2, _⟩ => ⟨S16x512, .f32⟩
  | .local _ .vmem, ⟨3, _⟩ => ⟨S1x512, .f32⟩
  | .local _ .vmem, ⟨4, _⟩ => ⟨S2048x512, .f32⟩
  | .local _ .vmem, ⟨5, _⟩ => ⟨S1x512, .f32⟩
  | .local _ .vmem, ⟨6, _⟩ => ⟨S1536x256, .f32⟩
  | .local _ .vmem, ⟨7, _⟩ => ⟨S1x256, .f32⟩
  | .local _ .vmem, ⟨8, _⟩ => ⟨S256x1024, .f32⟩
  | .local _ .vmem, ⟨9, _⟩ => ⟨S1x1024, .f32⟩
  | .local _ .vmem, ⟨10, _⟩ => ⟨S1x8x512, .i32⟩
  | .local _ .vmem, ⟨11, _⟩ => ⟨S1x8x512, .i32⟩
  | _, _ => ⟨S64x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x4x2048 : Shape := ⟨3, ![64, 4, 2048]⟩
abbrev S512x4x4 : Shape := ⟨3, ![512, 4, 4]⟩
abbrev S512 : Shape := ⟨1, ![512]⟩
abbrev S512x512x4 : Shape := ⟨3, ![512, 512, 4]⟩
abbrev S256x512x3 : Shape := ⟨3, ![256, 512, 3]⟩
abbrev S256 : Shape := ⟨1, ![256]⟩
abbrev S1024x256 : Shape := ⟨2, ![1024, 256]⟩
abbrev S_ : Shape := ⟨0, ![]⟩
abbrev S64x4x2050 : Shape := ⟨3, ![64, 4, 2050]⟩
abbrev S64x4x1024 : Shape := ⟨3, ![64, 4, 1024]⟩
abbrev S512x4x1 : Shape := ⟨3, ![512, 4, 1]⟩
abbrev S512x4 : Shape := ⟨2, ![512, 4]⟩
abbrev S512x64x1024 : Shape := ⟨3, ![512, 64, 1024]⟩
abbrev S64x512x1024 : Shape := ⟨3, ![64, 512, 1024]⟩
abbrev S1x512x1 : Shape := ⟨3, ![1, 512, 1]⟩
abbrev S64x512x1026 : Shape := ⟨3, ![64, 512, 1026]⟩
abbrev S64x512x512 : Shape := ⟨3, ![64, 512, 512]⟩
abbrev S512x512x1 : Shape := ⟨3, ![512, 512, 1]⟩
abbrev S512x512 : Shape := ⟨2, ![512, 512]⟩
abbrev S512x64x512 : Shape := ⟨3, ![512, 64, 512]⟩
abbrev S64x512x514 : Shape := ⟨3, ![64, 512, 514]⟩
abbrev S256x512x1 : Shape := ⟨3, ![256, 512, 1]⟩
abbrev S256x512 : Shape := ⟨2, ![256, 512]⟩
abbrev S256x64x512 : Shape := ⟨3, ![256, 64, 512]⟩
abbrev S64x256x512 : Shape := ⟨3, ![64, 256, 512]⟩
abbrev S1x256x1 : Shape := ⟨3, ![1, 256, 1]⟩
abbrev S64x512x256 : Shape := ⟨3, ![64, 512, 256]⟩
abbrev S64x512 : Shape := ⟨2, ![64, 512]⟩
abbrev S64x512x1 : Shape := ⟨3, ![64, 512, 1]⟩
abbrev S1024 : Shape := ⟨1, ![1024]⟩
abbrev S1x1x1024 : Shape := ⟨3, ![1, 1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S64x4x2048, .f32⟩
  | .hbm, ⟨1, _⟩ => ⟨S512x4x4, .f32⟩
  | .hbm, ⟨2, _⟩ => ⟨S512, .f32⟩
  | .hbm, ⟨3, _⟩ => ⟨S512x512x4, .f32⟩
  | .hbm, ⟨4, _⟩ => ⟨S512, .f32⟩
  | .hbm, ⟨5, _⟩ => ⟨S256x512x3, .f32⟩
  | .hbm, ⟨6, _⟩ => ⟨S256, .f32⟩
  | .hbm, ⟨7, _⟩ => ⟨S1024x256, .f32⟩
  | .hbm, ⟨8, _⟩ => ⟨S_, .i32⟩
  | .hbm, ⟨9, _⟩ => ⟨S_, .f32⟩
  | .hbm, ⟨10, _⟩ => ⟨S64x4x2050, .f32⟩
  | .hbm, ⟨11, _⟩ => ⟨S64x4x1024, .f32⟩
  | .hbm, ⟨12, _⟩ => ⟨S512x4x1, .f32⟩
  | .hbm, ⟨13, _⟩ => ⟨S512x4, .f32⟩
  | .hbm, ⟨14, _⟩ => ⟨S512x64x1024, .f32⟩
  | .hbm, ⟨15, _⟩ => ⟨S64x512x1024, .f32⟩
  | .hbm, ⟨16, _⟩ => ⟨S_, .f32⟩
  | .hbm, ⟨17, _⟩ => ⟨S64x512x1024, .f32⟩
  | .hbm, ⟨18, _⟩ => ⟨S64x512x1024, .f32⟩
  | .hbm, ⟨19, _⟩ => ⟨S64x4x1024, .f32⟩
  | .hbm, ⟨20, _⟩ => ⟨S512x4x1, .f32⟩
  | .hbm, ⟨21, _⟩ => ⟨S512x4, .f32⟩
  | .hbm, ⟨22, _⟩ => ⟨S512x64x1024, .f32⟩
  | .hbm, ⟨23, _⟩ => ⟨S64x512x1024, .f32⟩
  | .hbm, ⟨24, _⟩ => ⟨S64x512x1024, .f32⟩
  | .hbm, ⟨25, _⟩ => ⟨S64x4x1024, .f32⟩
  | .hbm, ⟨26, _⟩ => ⟨S512x4x1, .f32⟩
  | .hbm, ⟨27, _⟩ => ⟨S512x4, .f32⟩
  | .hbm, ⟨28, _⟩ => ⟨S512x64x1024, .f32⟩
  | .hbm, ⟨29, _⟩ => ⟨S64x512x1024, .f32⟩
  | .hbm, ⟨30, _⟩ => ⟨S64x512x1024, .f32⟩
  | .hbm, ⟨31, _⟩ => ⟨S64x4x1024, .f32⟩
  | .hbm, ⟨32, _⟩ => ⟨S512x4x1, .f32⟩
  | .hbm, ⟨33, _⟩ => ⟨S512x4, .f32⟩
  | .hbm, ⟨34, _⟩ => ⟨S512x64x1024, .f32⟩
  | .hbm, ⟨35, _⟩ => ⟨S64x512x1024, .f32⟩
  | .hbm, ⟨36, _⟩ => ⟨S64x512x1024, .f32⟩
  | .hbm, ⟨37, _⟩ => ⟨S1x512x1, .f32⟩
  | .hbm, ⟨38, _⟩ => ⟨S64x512x1024, .f32⟩
  | .hbm, ⟨39, _⟩ => ⟨S64x512x1024, .f32⟩
  | .hbm, ⟨40, _⟩ => ⟨S_, .f32⟩
  | .hbm, ⟨41, _⟩ => ⟨S64x512x1024, .f32⟩
  | .hbm, ⟨42, _⟩ => ⟨S64x512x1024, .f32⟩
  | .hbm, ⟨43, _⟩ => ⟨S_, .i32⟩
  | .hbm, ⟨44, _⟩ => ⟨S_, .f32⟩
  | .hbm, ⟨45, _⟩ => ⟨S64x512x1026, .f32⟩
  | .hbm, ⟨46, _⟩ => ⟨S64x512x512, .f32⟩
  | .hbm, ⟨47, _⟩ => ⟨S512x512x1, .f32⟩
  | .hbm, ⟨48, _⟩ => ⟨S512x512, .f32⟩
  | .hbm, ⟨49, _⟩ => ⟨S512x64x512, .f32⟩
  | .hbm, ⟨50, _⟩ => ⟨S64x512x512, .f32⟩
  | .hbm, ⟨51, _⟩ => ⟨S_, .f32⟩
  | .hbm, ⟨52, _⟩ => ⟨S64x512x512, .f32⟩
  | .hbm, ⟨53, _⟩ => ⟨S64x512x512, .f32⟩
  | .hbm, ⟨54, _⟩ => ⟨S64x512x512, .f32⟩
  | .hbm, ⟨55, _⟩ => ⟨S512x512x1, .f32⟩
  | .hbm, ⟨56, _⟩ => ⟨S512x512, .f32⟩
  | .hbm, ⟨57, _⟩ => ⟨S512x64x512, .f32⟩
  | .hbm, ⟨58, _⟩ => ⟨S64x512x512, .f32⟩
  | .hbm, ⟨59, _⟩ => ⟨S64x512x512, .f32⟩
  | .hbm, ⟨60, _⟩ => ⟨S64x512x512, .f32⟩
  | .hbm, ⟨61, _⟩ => ⟨S512x512x1, .f32⟩
  | .hbm, ⟨62, _⟩ => ⟨S512x512, .f32⟩
  | .hbm, ⟨63, _⟩ => ⟨S512x64x512, .f32⟩
  | .hbm, ⟨64, _⟩ => ⟨S64x512x512, .f32⟩
  | .hbm, ⟨65, _⟩ => ⟨S64x512x512, .f32⟩
  | .hbm, ⟨66, _⟩ => ⟨S64x512x512, .f32⟩
  | .hbm, ⟨67, _⟩ => ⟨S512x512x1, .f32⟩
  | .hbm, ⟨68, _⟩ => ⟨S512x512, .f32⟩
  | .hbm, ⟨69, _⟩ => ⟨S512x64x512, .f32⟩
  | .hbm, ⟨70, _⟩ => ⟨S64x512x512, .f32⟩
  | .hbm, ⟨71, _⟩ => ⟨S64x512x512, .f32⟩
  | .hbm, ⟨72, _⟩ => ⟨S1x512x1, .f32⟩
  | .hbm, ⟨73, _⟩ => ⟨S64x512x512, .f32⟩
  | .hbm, ⟨74, _⟩ => ⟨S64x512x512, .f32⟩
  | .hbm, ⟨75, _⟩ => ⟨S_, .f32⟩
  | .hbm, ⟨76, _⟩ => ⟨S64x512x512, .f32⟩
  | .hbm, ⟨77, _⟩ => ⟨S64x512x512, .f32⟩
  | .hbm, ⟨78, _⟩ => ⟨S_, .i32⟩
  | .hbm, ⟨79, _⟩ => ⟨S_, .f32⟩
  | .hbm, ⟨80, _⟩ => ⟨S64x512x514, .f32⟩
  | .hbm, ⟨81, _⟩ => ⟨S64x512x512, .f32⟩
  | .hbm, ⟨82, _⟩ => ⟨S256x512x1, .f32⟩
  | .hbm, ⟨83, _⟩ => ⟨S256x512, .f32⟩
  | .hbm, ⟨84, _⟩ => ⟨S256x64x512, .f32⟩
  | .hbm, ⟨85, _⟩ => ⟨S64x256x512, .f32⟩
  | .hbm, ⟨86, _⟩ => ⟨S_, .f32⟩
  | .hbm, ⟨87, _⟩ => ⟨S64x256x512, .f32⟩
  | .hbm, ⟨88, _⟩ => ⟨S64x256x512, .f32⟩
  | .hbm, ⟨89, _⟩ => ⟨S64x512x512, .f32⟩
  | .hbm, ⟨90, _⟩ => ⟨S256x512x1, .f32⟩
  | .hbm, ⟨91, _⟩ => ⟨S256x512, .f32⟩
  | .hbm, ⟨92, _⟩ => ⟨S256x64x512, .f32⟩
  | .hbm, ⟨93, _⟩ => ⟨S64x256x512, .f32⟩
  | .hbm, ⟨94, _⟩ => ⟨S64x256x512, .f32⟩
  | .hbm, ⟨95, _⟩ => ⟨S64x512x512, .f32⟩
  | .hbm, ⟨96, _⟩ => ⟨S256x512x1, .f32⟩
  | .hbm, ⟨97, _⟩ => ⟨S256x512, .f32⟩
  | .hbm, ⟨98, _⟩ => ⟨S256x64x512, .f32⟩
  | .hbm, ⟨99, _⟩ => ⟨S64x256x512, .f32⟩
  | .hbm, ⟨100, _⟩ => ⟨S64x256x512, .f32⟩
  | .hbm, ⟨101, _⟩ => ⟨S1x256x1, .f32⟩
  | .hbm, ⟨102, _⟩ => ⟨S64x256x512, .f32⟩
  | .hbm, ⟨103, _⟩ => ⟨S64x256x512, .f32⟩
  | .hbm, ⟨104, _⟩ => ⟨S64x512x256, .f32⟩
  | .hbm, ⟨105, _⟩ => ⟨S64x512x256, .f32⟩
  | .hbm, ⟨106, _⟩ => ⟨S_, .f32⟩
  | .hbm, ⟨107, _⟩ => ⟨S64x512, .f32⟩
  | .hbm, ⟨108, _⟩ => ⟨S64x512x1, .f32⟩
  | .hbm, ⟨109, _⟩ => ⟨S64x512x1024, .f32⟩
  | .hbm, ⟨110, _⟩ => ⟨S_, .f32⟩
  | .hbm, ⟨111, _⟩ => ⟨S64x512x1024, .f32⟩
  | .hbm, ⟨112, _⟩ => ⟨S64x512x1024, .f32⟩
  | .hbm, ⟨113, _⟩ => ⟨S64x512x1024, .f32⟩
  | .hbm, ⟨114, _⟩ => ⟨S64x512x1024, .f32⟩
  | .hbm, ⟨115, _⟩ => ⟨S1024x256, .f32⟩
  | .hbm, ⟨116, _⟩ => ⟨S_, .f32⟩
  | .hbm, ⟨117, _⟩ => ⟨S1024, .f32⟩
  | .hbm, ⟨118, _⟩ => ⟨S1x1x1024, .f32⟩
  | .hbm, ⟨119, _⟩ => ⟨S64x512x1024, .f32⟩
  | .hbm, ⟨120, _⟩ => ⟨S64x512x1024, .f32⟩
  | .hbm, ⟨121, _⟩ => ⟨S64x512x1024, .i32⟩
  | .hbm, ⟨122, _⟩ => ⟨S_, .f32⟩
  | .hbm, ⟨123, _⟩ => ⟨S_, .i32⟩
  | .hbm, ⟨124, _⟩ => ⟨S64x512, .f32⟩
  | .hbm, ⟨125, _⟩ => ⟨S64x512, .i32⟩
  | _, _ => ⟨S64x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_cst : Ref sig .tc := ⟨.hbm, 40, rfl⟩
abbrev main_call1_v0 : Ref sig .tc := ⟨.hbm, 41, rfl⟩
abbrev main_v29 : Ref sig .tc := ⟨.hbm, 42, rfl⟩
abbrev main_c_0 : Ref sig .tc := ⟨.hbm, 43, rfl⟩
abbrev main_call2_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call3_cst : Ref sig .tc := ⟨.hbm, 75, rfl⟩
abbrev main_call3_v0 : Ref sig .tc := ⟨.hbm, 76, rfl⟩
abbrev main_v59 : Ref sig .tc := ⟨.hbm, 77, rfl⟩
abbrev main_c_2 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_3 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_4 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_5 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_6 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_call5_v0 : Ref sig .tc := ⟨.hbm, 121, rfl⟩
abbrev main_call5_cst : Ref sig .tc := ⟨.hbm, 122, rfl⟩
abbrev main_call5_c : Ref sig .tc := ⟨.hbm, 123, rfl⟩
abbrev main_call5_v1_0 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Proof.RefRun.lean ====
/-
  THE REFERENCE'S RUN (untrusted): @main of the reference program as six windows of host operations — one per layer —, each read
  back as a function of the arguments, and the run with the result buffer at their composition and the arguments unchanged.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-! ## The layers as functions -/

/-- Tap `t` of the first convolution: the filter's column `t` against every second sample of the padded signal from `t` on. -/
def tap1 (xp : (⟨S64x4x2050, .f32⟩ : BufTy).Contents (Elt F)) (w : (⟨S512x4x4, .f32⟩ : BufTy).Contents (Elt F)) (t : ℕ)
    (hw : S512x4x4.Slices ![0, 0, t] S512x4x1) (hx : S64x4x2050.SlicesBy ![0, 0, t] ![1, 1, 2] S64x4x1024) :
    (⟨S64x512x1024, .f32⟩ : BufTy).Contents (Elt F) :=
  transpose S64x512x1024 [1, 0, 2] (Host.dotGeneral dot_S512x4_S64x4x1024_S512x64x1024_1_1_0_02_n_n none
    (shapeCast _ (extractStridedSlice S512x4x1 ![0, 0, t] w hw) shapeCasts_S512x4x1_S512x4)
    (Host.slice S64x4x1024 ![0, 0, t] ![1, 1, 2] xp hx)) transposes_S512x64x1024_S64x512x1024_1_0_2

/-- The signal padded by one zero on either side. -/
def pad1 (x : (⟨S64x4x2048, .f32⟩ : BufTy).Contents (Elt F)) : (⟨S64x4x2050, .f32⟩ : BufTy).Contents (Elt F) :=
  pad S64x4x2050 ![0, 0, 1] ![0, 0, 1] ![0, 0, 0] x (sitofp .f32 (constantI S_ 32 0#32)) pads_S64x4x2048_S64x4x2050_000_000_110 h_S_

/-- The first layer: four taps, the bias, the rectifier. -/
def layer1 (x : (⟨S64x4x2048, .f32⟩ : BufTy).Contents (Elt F)) (w : (⟨S512x4x4, .f32⟩ : BufTy).Contents (Elt F))
    (b : (⟨S512, .f32⟩ : BufTy).Contents (Elt F)) : (⟨S64x512x1024, .f32⟩ : BufTy).Contents (Elt F) :=
  maximumf (addf (addf (addf (addf (addf (broadcastInDim S64x512x1024 ![] bcast_S_S64x512x1024 (constant S_ .f32 0x00000000#32))
      (tap1 (pad1 x) w 0 slices_S512x4x4_S512x4x1_0_0_0 slicesBy_S64x4x2050_S64x4x1024_0s1_0s1_0s2))
      (tap1 (pad1 x) w 1 slices_S512x4x4_S512x4x1_0_0_1 slicesBy_S64x4x2050_S64x4x1024_0s1_0s1_1s2))
      (tap1 (pad1 x) w 2 slices_S512x4x4_S512x4x1_0_0_2 slicesBy_S64x4x2050_S64x4x1024_0s1_0s1_2s2))
      (tap1 (pad1 x) w 3 slices_S512x4x4_S512x4x1_0_0_3 slicesBy_S64x4x2050_S64x4x1024_0s1_0s1_3s2))
      (broadcastInDim S64x512x1024 ![0, 1, 2] bcast_S1x512x1_S64x512x1024_0_1_2 (broadcastInDim S1x512x1 ![1] bcast_S512_S1x512x1_1 b)))
    (broadcastInDim S64x512x1024 ![] bcast_S_S64x512x1024 (constant S_ .f32 0x00000000#32))

/-- Tap `t` of the second convolution. -/
def tap2 (hp : (⟨S64x512x1026, .f32⟩ : BufTy).Contents (Elt F)) (w : (⟨S512x512x4, .f32⟩ : BufTy).Contents (Elt F)) (t : ℕ)
    (hw : S512x512x4.Slices ![0, 0, t] S512x512x1) (hx : S64x512x1026.SlicesBy ![0, 0, t] ![1, 1, 2] S64x512x512) :
    (⟨S64x512x512, .f32⟩ : BufTy).Contents (Elt F) :=
  transpose S64x512x512 [1, 0, 2] (Host.dotGeneral dot_S512x512_S64x512x512_S512x64x512_1_1_0_02_n_n none
    (shapeCast _ (extractStridedSlice S512x512x1 ![0, 0, t] w hw) shapeCasts_S512x512x1_S512x512)
    (Host.slice S64x512x512 ![0, 0, t] ![1, 1, 2] hp hx)) transposes_S512x64x512_S64x512x512_1_0_2

/-- The first layer's channels padded by one zero on either side. -/
def pad2 (h : (⟨S64x512x1024, .f32⟩ : BufTy).Contents (Elt F)) : (⟨S64x512x1026, .f32⟩ : BufTy).Contents (Elt F) :=
  pad S64x512x1026 ![0, 0, 1] ![0, 0, 1] ![0, 0, 0] h (sitofp .f32 (constantI S_ 32 0#32)) pads_S64x512x1024_S64x512x1026_000_000_110 h_S_

/-- The second layer before its bias: four taps. -/
def taps2 (h : (⟨S64x512x1024, .f32⟩ : BufTy).Contents (Elt F)) (w : (⟨S512x512x4, .f32⟩ : BufTy).Contents (Elt F)) :
    (⟨S64x512x512, .f32⟩ : BufTy).Contents (Elt F) :=
  addf (addf (addf (addf (broadcastInDim S64x512x512 ![] bcast_S_S64x512x512 (constant S_ .f32 0x00000000#32))
      (tap2 (pad2 h) w 0 slices_S512x512x4_S512x512x1_0_0_0 slicesBy_S64x512x1026_S64x512x512_0s1_0s1_0s2))
      (tap2 (pad2 h) w 1 slices_S512x512x4_S512x512x1_0_0_1 slicesBy_S64x512x1026_S64x512x512_0s1_0s1_1s2))
      (tap2 (pad2 h) w 2 slices_S512x512x4_S512x512x1_0_0_2 slicesBy_S64x512x1026_S64x512x512_0s1_0s1_2s2))
      (tap2 (pad2 h) w 3 slices_S512x512x4_S512x512x1_0_0_3 slicesBy_S64x512x1026_S64x512x512_0s1_0s1_3s2)

/-- The second layer from its taps: the bias and the rectifier. -/
def layer2 (a : (⟨S64x512x512, .f32⟩ : BufTy).Contents (Elt F)) (b : (⟨S512, .f32⟩ : BufTy).Contents (Elt F)) :
    (⟨S64x512x512, .f32⟩ : BufTy).Contents (Elt F) :=
  maximumf (addf a (broadcastInDim S64x512x512 ![0, 1, 2] bcast_S1x512x1_S64x512x512_0_1_2 (broadcastInDim S1x512x1 ![1] bcast_S512_S1x512x1_1 b)))
    (broadcastInDim S64x512x512 ![] bcast_S_S64x512x512 (constant S_ .f32 0x00000000#32))

/-- Tap `t` of the third convolution. -/
def tap3 (hp : (⟨S64x512x514, .f32⟩ : BufTy).Contents (Elt F)) (w : (⟨S256x512x3, .f32⟩ : BufTy).Contents (Elt F)) (t : ℕ)
    (hw : S256x512x3.Slices ![0, 0, t] S256x512x1) (hx : S64x512x514.Slices ![0, 0, t] S64x512x512) :
    (⟨S64x256x512, .f32⟩ : BufTy).Contents (Elt F) :=
  transpose S64x256x512 [1, 0, 2] (Host.dotGeneral dot_S256x512_S64x512x512_S256x64x512_1_1_0_02_n_n none
    (shapeCast _ (extractStridedSlice S256x512x1 ![0, 0, t] w hw) shapeCasts_S256x512x1_S256x512)
    (extractStridedSlice S64x512x512 ![0, 0, t] hp hx)) transposes_S256x64x512_S64x256x512_1_0_2

/-- The second layer's channels padded by one zero on either side. -/
def pad3 (h : (⟨S64x512x512, .f32⟩ : BufTy).Contents (Elt F)) : (⟨S64x512x514, .f32⟩ : BufTy).Contents (Elt F) :=
  pad S64x512x514 ![0, 0, 1] ![0, 0, 1] ![0, 0, 0] h (sitofp .f32 (constantI S_ 32 0#32)) pads_S64x512x512_S64x512x514_000_000_110 h_S_

/-- The third layer: three taps and the bias, the channels moved last. -/
def layer3 (h : (⟨S64x512x512, .f32⟩ : BufTy).Contents (Elt F)) (w : (⟨S256x512x3, .f32⟩ : BufTy).Contents (Elt F))
    (b : (⟨S256, .f32⟩ : BufTy).Contents (Elt F)) : (⟨S64x512x256, .f32⟩ : BufTy).Contents (Elt F) :=
  transpose S64x512x256 [0, 2, 1] (addf (addf (addf (addf (broadcastInDim S64x256x512 ![] bcast_S_S64x256x512 (constant S_ .f32 0x00000000#32))
      (tap3 (pad3 h) w 0 slices_S256x512x3_S256x512x1_0_0_0 slices_S64x512x514_S64x512x512_0_0_0))
      (tap3 (pad3 h) w 1 slices_S256x512x3_S256x512x1_0_0_1 slices_S64x512x514_S64x512x512_0_0_1))
      (tap3 (pad3 h) w 2 slices_S256x512x3_S256x512x1_0_0_2 slices_S64x512x514_S64x512x512_0_0_2))
      (broadcastInDim S64x256x512 ![0, 1, 2] bcast_S1x256x1_S64x256x512_0_1_2 (broadcastInDim S1x256x1 ![1] bcast_S256_S1x256x1_1 b)))
    transposes_S64x256x512_S64x512x256_0_2_1

/-- The squared distances from every feature vector to every codebook row. -/
def dists (z : (⟨S64x512x256, .f32⟩ : BufTy).Contents (Elt F)) (cb : (⟨S1024x256, .f32⟩ : BufTy).Contents (Elt F)) :
    (⟨S64x512x1024, .f32⟩ : BufTy).Contents (Elt F) :=
  addf (subf (broadcastInDim S64x512x1024 ![0, 1, 2] bcast_S64x512x1_S64x512x1024_0_1_2 (broadcastInDim S64x512x1 ![0, 1] bcast_S64x512_S64x512x1_0_1
        (Host.reduceAdd (mulf z z) (constant S_ .f32 0x00000000#32) reducesTo_S64x512x256_S64x512_d2 h_S_)))
      (mulf (broadcastInDim S64x512x1024 ![] bcast_S_S64x512x1024 (constant S_ .f32 0x40000000#32))
        (Host.dotGeneral dot_S64x512x256_S1024x256_S64x512x1024_2_1_01_0_n_n none z cb)))
    (broadcastInDim S64x512x1024 ![0, 1, 2] bcast_S1x1x1024_S64x512x1024_0_1_2 (broadcastInDim S1x1x1024 ![2] bcast_S1024_S1x1x1024_2
      (Host.reduceAdd (mulf cb cb) (constant S_ .f32 0x00000000#32) reducesTo_S1024x256_S1024_d1 h_S_)))

/-- The index of each feature vector's nearest codebook row: the reference's own reduction over (distance, index) pairs. -/
def nearest (d : (⟨S64x512x1024, .f32⟩ : BufTy).Contents (Elt F)) : (⟨S64x512, .i32⟩ : BufTy).Contents (Elt F) := fun j =>
  (Host.argReduce reducer_argmin_f32_i32 d (iotaInDim S64x512x1024 32 2) (constant S_ .f32 0x7F800000#32) (constantI S_ 32 0#32)
    reducesTo_S64x512x1024_S64x512_d2 h_S_ j).2

/-! ## The operations, layer by layer -/

/-- @main's operations 1 … 35 of 118: the first convolution and its rectifier. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S64x4x2048, .f32⟩) main_arg0) (TRef.of (T := ⟨S_, .f32⟩) main_call0_v0) (TRef.of (T := ⟨S64x4x2050, .f32⟩) main_v0) (fun x v => pad S64x4x2050 ![0, 0, 1] ![0, 0, 1] ![0, 0, 0] x v pads_S64x4x2048_S64x4x2050_000_000_110 h_S_),
    unary main_v0 main_v1 ((Host.slice S64x4x1024 ![0, 0, 0] ![1, 1, 2] · slicesBy_S64x4x2050_S64x4x1024_0s1_0s1_0s2) : (⟨S64x4x2050, .f32⟩ : BufTy).Contents (Elt F) → (⟨S64x4x1024, .f32⟩ : BufTy).Contents (Elt F)),
    unary main_arg1 main_v2 ((extractStridedSlice S512x4x1 ![0, 0, 0] · slices_S512x4x4_S512x4x1_0_0_0) : (⟨S512x4x4, .f32⟩ : BufTy).Contents (Elt F) → (⟨S512x4x1, .f32⟩ : BufTy).Contents (Elt F)),
    reshape main_v2 main_v3 (rfl : (.f32 : EltTy) = .f32) shapeCasts_S512x4x1_S512x4,
    binary main_v3 main_v1 main_v4 ((fun l r => Host.dotGeneral dot_S512x4_S64x4x1024_S512x64x1024_1_1_0_02_n_n none l r) : (⟨S512x4, .f32⟩ : BufTy).Contents (Elt F) → (⟨S64x4x1024, .f32⟩ : BufTy).Contents (Elt F) → (⟨S512x64x1024, .f32⟩ : BufTy).Contents (Elt F)),
    unary main_v4 main_v5 ((transpose S64x512x1024 [1, 0, 2] · transposes_S512x64x1024_S64x512x1024_1_0_2) : (⟨S512x64x1024, .f32⟩ : BufTy).Contents (Elt F) → (⟨S64x512x1024, .f32⟩ : BufTy).Contents (Elt F)),
    nullary main_cst (constant S_ .f32 0x00000000#32),
    unary main_cst main_v6 (broadcastInDim S64x512x1024 ![] bcast_S_S64x512x1024 : (⟨S_, .f32⟩ : BufTy).Contents (Elt F) → (⟨S64x512x1024, .f32⟩ : BufTy).Contents (Elt F)),
    binary main_v6 main_v5 main_v7 (addf : (⟨S64x512x1024, .f32⟩ : BufTy).Contents (Elt F) → (⟨S64x512x1024, .f32⟩ : BufTy).Contents (Elt F) → (⟨S64x512x1024, .f32⟩ : BufTy).Contents (Elt F)),
    unary main_v0 main_v8 ((Host.slice S64x4x1024 ![0, 0, 1] ![1, 1, 2] · slicesBy_S64x4x2050_S64x4x1024_0s1_0s1_1s2) : (⟨S64x4x2050, .f32⟩ : BufTy).Contents (Elt F) → (⟨S64x4x1024, .f32⟩ : BufTy).Contents (Elt F)),
    unary main_arg1 main_v9 ((extractStridedSlice S512x4x1 ![0, 0, 1] · slices_S512x4x4_S512x4x1_0_0_1) : (⟨S512x4x4, .f32⟩ : BufTy).Contents (Elt F) → (⟨S512x4x1, .f32⟩ : BufTy).Contents (Elt F)),
    reshape main_v9 main_v10 (rfl : (.f32 : EltTy) = .f32) shapeCasts_S512x4x1_S512x4,
    binary main_v10 main_v8 main_v11 ((fun l r => Host.dotGeneral dot_S512x4_S64x4x1024_S512x64x1024_1_1_0_02_n_n none l r) : (⟨S512x4, .f32⟩ : BufTy).Contents (Elt F) → (⟨S64x4x1024, .f32⟩ : BufTy).Contents (Elt F) → (⟨S512x64x1024, .f32⟩ : BufTy).Contents (Elt F)),
    unary main_v11 main_v12 ((transpose S64x512x1024 [1, 0, 2] · transposes_S512x64x1024_S64x512x1024_1_0_2) : (⟨S512x64x1024, .f32⟩ : BufTy).Contents (Elt F) → (⟨S64x512x1024, .f32⟩ : BufTy).Contents (Elt F)),
    binary main_v7 main_v12 main_v13 (addf : (⟨S64x512x1024, .f32⟩ : BufTy).Contents (Elt F) → (⟨S64x512x1024, .f32⟩ : BufTy).Contents (Elt F) → (⟨S64x512x1024, .f32⟩ : BufTy).Contents (Elt F)),
    unary main_v0 main_v14 ((Host.slice S64x4x1024 ![0, 0, 2] ![1, 1, 2] · slicesBy_S64x4x2050_S64x4x1024_0s1_0s1_2s2) : (⟨S64x4x2050, .f32⟩ : BufTy).Contents (Elt F) → (⟨S64x4x1024, .f32⟩ : BufTy).Contents (Elt F)),
    unary main_arg1 main_v15 ((extractStridedSlice S512x4x1 ![0, 0, 2] · slices_S512x4x4_S512x4x1_0_0_2) : (⟨S512x4x4, .f32⟩ : BufTy).Contents (Elt F) → (⟨S512x4x1, .f32⟩ : BufTy).Contents (Elt F)),
    reshape main_v15 main_v16 (rfl : (.f32 : EltTy) = .f32) shapeCasts_S512x4x1_S512x4,
    binary main_v16 main_v14 main_v17 ((fun l r => Host.dotGeneral dot_S512x4_S64x4x1024_S512x64x1024_1_1_0_02_n_n none l r) : (⟨S512x4, .f32⟩ : BufTy).Contents (Elt F) → (⟨S64x4x1024, .f32⟩ : BufTy).Contents (Elt F) → (⟨S512x64x1024, .f32⟩ : BufTy).Contents (Elt F)),
    unary main_v17 main_v18 ((transpose S64x512x1024 [1, 0, 2] · transposes_S512x64x1024_S64x512x1024_1_0_2) : (⟨S512x64x1024, .f32⟩ : BufTy).Contents (Elt F) → (⟨S64x512x1024, .f32⟩ : BufTy).Contents (Elt F)),
    binary main_v13 main_v18 main_v19 (addf : (⟨S64x512x1024, .f32⟩ : BufTy).Contents (Elt F) → (⟨S64x512x1024, .f32⟩ : BufTy).Contents (Elt F) → (⟨S64x512x1024, .f32⟩ : BufTy).Contents (Elt F)),
    unary main_v0 main_v20 ((Host.slice S64x4x1024 ![0, 0, 3] ![1, 1, 2] · slicesBy_S64x4x2050_S64x4x1024_0s1_0s1_3s2) : (⟨S64x4x2050, .f32⟩ : BufTy).Contents (Elt F) → (⟨S64x4x1024, .f32⟩ : BufTy).Contents (Elt F)),
    unary main_arg1 main_v21 ((extractStridedSlice S512x4x1 ![0, 0, 3] · slices_S512x4x4_S512x4x1_0_0_3) : (⟨S512x4x4, .f32⟩ : BufTy).Contents (Elt F) → (⟨S512x4x1, .f32⟩ : BufTy).Contents (Elt F)),
    reshape main_v21 main_v22 (rfl : (.f32 : EltTy) = .f32) shapeCasts_S512x4x1_S512x4,
    binary main_v22 main_v20 main_v23 ((fun l r => Host.dotGeneral dot_S512x4_S64x4x1024_S512x64x1024_1_1_0_02_n_n none l r) : (⟨S512x4, .f32⟩ : BufTy).Contents (Elt F) → (⟨S64x4x1024, .f32⟩ : BufTy).Contents (Elt F) → (⟨S512x64x1024, .f32⟩ : BufTy).Contents (Elt F)),
    unary main_v23 main_v24 ((transpose S64x512x1024 [1, 0, 2] · transposes_S512x64x1024_S64x512x1024_1_0_2) : (⟨S512x64x1024, .f32⟩ : BufTy).Contents (Elt F) → (⟨S64x512x1024, .f32⟩ : BufTy).Contents (Elt F)),
    binary main_v19 main_v24 main_v25 (addf : (⟨S64x512x1024, .f32⟩ : BufTy).Contents (Elt F) → (⟨S64x512x1024, .f32⟩ : BufTy).Contents (Elt F) → (⟨S64x512x1024, .f32⟩ : BufTy).Contents (Elt F)),
    unary main_arg2 main_v26 (broadcastInDim S1x512x1 ![1] bcast_S512_S1x512x1_1 : (⟨S512, .f32⟩ : BufTy).Contents (Elt F) → (⟨S1x512x1, .f32⟩ : BufTy).Contents (Elt F)),
    unary main_v26 main_v27 (broadcastInDim S64x512x1024 ![0, 1, 2] bcast_S1x512x1_S64x512x1024_0_1_2 : (⟨S1x512x1, .f32⟩ : BufTy).Contents (Elt F) → (⟨S64x512x1024, .f32⟩ : BufTy).Contents (Elt F)),
    binary main_v25 main_v27 main_v28 (addf : (⟨S64x512x1024, .f32⟩ : BufTy).Contents (Elt F) → (⟨S64x512x1024, .f32⟩ : BufTy).Contents (Elt F) → (⟨S64x512x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x512x1024, .f32⟩) main_call1_v0) (broadcastInDim S64x512x1024 ![] bcast_S_S64x512x1024),
    TRef.binary (TRef.of (T := ⟨S64x512x1024, .f32⟩) main_v28) (TRef.of (T := ⟨S64x512x1024, .f32⟩) main_call1_v0) (TRef.of (T := ⟨S64x512x1024, .f32⟩) main_v29) maximumf ]

/-- @main's operations 36 … 64 of 118: the taps of the second convolution. -/
abbrev opsB : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S64x512x1024, .f32⟩) main_v29) (TRef.of (T := ⟨S_, .f32⟩) main_call2_v0) (TRef.of (T := ⟨S64x512x1026, .f32⟩) main_v30) (fun x v => pad S64x512x1026 ![0, 0, 1] ![0, 0, 1] ![0, 0, 0] x v pads_S64x512x1024_S64x512x1026_000_000_110 h_S_),
    unary main_v30 main_v31 ((Host.slice S64x512x512 ![0, 0, 0] ![1, 1, 2] · slicesBy_S64x512x1026_S64x512x512_0s1_0s1_0s2) : (⟨S64x512x1026, .f32⟩ : BufTy).Contents (Elt F) → (⟨S64x512x512, .f32⟩ : BufTy).Contents (Elt F)),
    unary main_arg3 main_v32 ((extractStridedSlice S512x512x1 ![0, 0, 0] · slices_S512x512x4_S512x512x1_0_0_0) : (⟨S512x512x4, .f32⟩ : BufTy).Contents (Elt F) → (⟨S512x512x1, .f32⟩ : BufTy).Contents (Elt F)),
    reshape main_v32 main_v33 (rfl : (.f32 : EltTy) = .f32) shapeCasts_S512x512x1_S512x512,
    binary main_v33 main_v31 main_v34 ((fun l r => Host.dotGeneral dot_S512x512_S64x512x512_S512x64x512_1_1_0_02_n_n none l r) : (⟨S512x512, .f32⟩ : BufTy).Contents (Elt F) → (⟨S64x512x512, .f32⟩ : BufTy).Contents (Elt F) → (⟨S512x64x512, .f32⟩ : BufTy).Contents (Elt F)),
    unary main_v34 main_v35 ((transpose S64x512x512 [1, 0, 2] · transposes_S512x64x512_S64x512x512_1_0_2) : (⟨S512x64x512, .f32⟩ : BufTy).Contents (Elt F) → (⟨S64x512x512, .f32⟩ : BufTy).Contents (Elt F)),
    nullary main_cst_1 (constant S_ .f32 0x00000000#32),
    unary main_cst_1 main_v36 (broadcastInDim S64x512x512 ![] bcast_S_S64x512x512 : (⟨S_, .f32⟩ : BufTy).Contents (Elt F) → (⟨S64x512x512, .f32⟩ : BufTy).Contents (Elt F)),
    binary main_v36 main_v35 main_v37 (addf : (⟨S64x512x512, .f32⟩ : BufTy).Contents (Elt F) → (⟨S64x512x512, .f32⟩ : BufTy).Contents (Elt F) → (⟨S64x512x512, .f32⟩ : BufTy).Contents (Elt F)),
    unary main_v30 main_v38 ((Host.slice S64x512x512 ![0, 0, 1] ![1, 1, 2] · slicesBy_S64x512x1026_S64x512x512_0s1_0s1_1s2) : (⟨S64x512x1026, .f32⟩ : BufTy).Contents (Elt F) → (⟨S64x512x512, .f32⟩ : BufTy).Contents (Elt F)),
    unary main_arg3 main_v39 ((extractStridedSlice S512x512x1 ![0, 0, 1] · slices_S512x512x4_S512x512x1_0_0_1) : (⟨S512x512x4, .f32⟩ : BufTy).Contents (Elt F) → (⟨S512x512x1, .f32⟩ : BufTy).Contents (Elt F)),
    reshape main_v39 main_v40 (rfl : (.f32 : EltTy) = .f32) shapeCasts_S512x512x1_S512x512,
    binary main_v40 main_v38 main_v41 ((fun l r => Host.dotGeneral dot_S512x512_S64x512x512_S512x64x512_1_1_0_02_n_n none l r) : (⟨S512x512, .f32⟩ : BufTy).Contents (Elt F) → (⟨S64x512x512, .f32⟩ : BufTy).Contents (Elt F) → (⟨S512x64x512, .f32⟩ : BufTy).Contents (Elt F)),
    unary main_v41 main_v42 ((transpose S64x512x512 [1, 0, 2] · transposes_S512x64x512_S64x512x512_1_0_2) : (⟨S512x64x512, .f32⟩ : BufTy).Contents (Elt F) → (⟨S64x512x512, .f32⟩ : BufTy).Contents (Elt F)),
    binary main_v37 main_v42 main_v43 (addf : (⟨S64x512x512, .f32⟩ : BufTy).Contents (Elt F) → (⟨S64x512x512, .f32⟩ : BufTy).Contents (Elt F) → (⟨S64x512x512, .f32⟩ : BufTy).Contents (Elt F)),
    unary main_v30 main_v44 ((Host.slice S64x512x512 ![0, 0, 2] ![1, 1, 2] · slicesBy_S64x512x1026_S64x512x512_0s1_0s1_2s2) : (⟨S64x512x1026, .f32⟩ : BufTy).Contents (Elt F) → (⟨S64x512x512, .f32⟩ : BufTy).Contents (Elt F)),
    unary main_arg3 main_v45 ((extractStridedSlice S512x512x1 ![0, 0, 2] · slices_S512x512x4_S512x512x1_0_0_2) : (⟨S512x512x4, .f32⟩ : BufTy).Contents (Elt F) → (⟨S512x512x1, .f32⟩ : BufTy).Contents (Elt F)),
    reshape main_v45 main_v46 (rfl : (.f32 : EltTy) = .f32) shapeCasts_S512x512x1_S512x512,
    binary main_v46 main_v44 main_v47 ((fun l r => Host.dotGeneral dot_S512x512_S64x512x512_S512x64x512_1_1_0_02_n_n none l r) : (⟨S512x512, .f32⟩ : BufTy).Contents (Elt F) → (⟨S64x512x512, .f32⟩ : BufTy).Contents (Elt F) → (⟨S512x64x512, .f32⟩ : BufTy).Contents (Elt F)),
    unary main_v47 main_v48 ((transpose S64x512x512 [1, 0, 2] · transposes_S512x64x512_S64x512x512_1_0_2) : (⟨S512x64x512, .f32⟩ : BufTy).Contents (Elt F) → (⟨S64x512x512, .f32⟩ : BufTy).Contents (Elt F)),
    binary main_v43 main_v48 main_v49 (addf : (⟨S64x512x512, .f32⟩ : BufTy).Contents (Elt F) → (⟨S64x512x512, .f32⟩ : BufTy).Contents (Elt F) → (⟨S64x512x512, .f32⟩ : BufTy).Contents (Elt F)),
    unary main_v30 main_v50 ((Host.slice S64x512x512 ![0, 0, 3] ![1, 1, 2] · slicesBy_S64x512x1026_S64x512x512_0s1_0s1_3s2) : (⟨S64x512x1026, .f32⟩ : BufTy).Contents (Elt F) → (⟨S64x512x512, .f32⟩ : BufTy).Contents (Elt F)),
    unary main_arg3 main_v51 ((extractStridedSlice S512x512x1 ![0, 0, 3] · slices_S512x512x4_S512x512x1_0_0_3) : (⟨S512x512x4, .f32⟩ : BufTy).Contents (Elt F) → (⟨S512x512x1, .f32⟩ : BufTy).Contents (Elt F)),
    reshape main_v51 main_v52 (rfl : (.f32 : EltTy) = .f32) shapeCasts_S512x512x1_S512x512,
    binary main_v52 main_v50 main_v53 ((fun l r => Host.dotGeneral dot_S512x512_S64x512x512_S512x64x512_1_1_0_02_n_n none l r) : (⟨S512x512, .f32⟩ : BufTy).Contents (Elt F) → (⟨S64x512x512, .f32⟩ : BufTy).Contents (Elt F) → (⟨S512x64x512, .f32⟩ : BufTy).Contents (Elt F)),
    unary main_v53 main_v54 ((transpose S64x512x512 [1, 0, 2] · transposes_S512x64x512_S64x512x512_1_0_2) : (⟨S512x64x512, .f32⟩ : BufTy).Contents (Elt F) → (⟨S64x512x512, .f32⟩ : BufTy).Contents (Elt F)),
    binary main_v49 main_v54 main_v55 (addf : (⟨S64x512x512, .f32⟩ : BufTy).Contents (Elt F) → (⟨S64x512x512, .f32⟩ : BufTy).Contents (Elt F) → (⟨S64x512x512, .f32⟩ : BufTy).Contents (Elt F)) ]

/-- @main's operations 65 … 70 of 118: the bias and rectifier of the second convolution. -/
abbrev opsC : List (HloOp τ sig (Elt F)) :=
  [ unary main_arg4 main_v56 (broadcastInDim S1x512x1 ![1] bcast_S512_S1x512x1_1 : (⟨S512, .f32⟩ : BufTy).Contents (Elt F) → (⟨S1x512x1, .f32⟩ : BufTy).Contents (Elt F)),
    unary main_v56 main_v57 (broadcastInDim S64x512x512 ![0, 1, 2] bcast_S1x512x1_S64x512x512_0_1_2 : (⟨S1x512x1, .f32⟩ : BufTy).Contents (Elt F) → (⟨S64x512x512, .f32⟩ : BufTy).Contents (Elt F)),
    binary main_v55 main_v57 main_v58 (addf : (⟨S64x512x512, .f32⟩ : BufTy).Contents (Elt F) → (⟨S64x512x512, .f32⟩ : BufTy).Contents (Elt F) → (⟨S64x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x512x512, .f32⟩) main_call3_v0) (broadcastInDim S64x512x512 ![] bcast_S_S64x512x512),
    TRef.binary (TRef.of (T := ⟨S64x512x512, .f32⟩) main_v58) (TRef.of (T := ⟨S64x512x512, .f32⟩) main_call3_v0) (TRef.of (T := ⟨S64x512x512, .f32⟩) main_v59) maximumf ]

/-- @main's operations 71 … 97 of 118: the third convolution, its channels moved last. -/
abbrev opsD : List (HloOp τ sig (Elt F)) :=
  [ nullary main_c_2 (constantI S_ 32 0#32),
    TRef.unary (TRef.of (T := ⟨S_, .i32⟩) main_c_2) (TRef.of (T := ⟨S_, .f32⟩) main_call4_v0) (sitofp .f32),
    TRef.binary (TRef.of (T := ⟨S64x512x512, .f32⟩) main_v59) (TRef.of (T := ⟨S_, .f32⟩) main_call4_v0) (TRef.of (T := ⟨S64x512x514, .f32⟩) main_v60) (fun x v => pad S64x512x514 ![0, 0, 1] ![0, 0, 1] ![0, 0, 0] x v pads_S64x512x512_S64x512x514_000_000_110 h_S_),
    unary main_v60 main_v61 ((extractStridedSlice S64x512x512 ![0, 0, 0] · slices_S64x512x514_S64x512x512_0_0_0) : (⟨S64x512x514, .f32⟩ : BufTy).Contents (Elt F) → (⟨S64x512x512, .f32⟩ : BufTy).Contents (Elt F)),
    unary main_arg5 main_v62 ((extractStridedSlice S256x512x1 ![0, 0, 0] · slices_S256x512x3_S256x512x1_0_0_0) : (⟨S256x512x3, .f32⟩ : BufTy).Contents (Elt F) → (⟨S256x512x1, .f32⟩ : BufTy).Contents (Elt F)),
    reshape main_v62 main_v63 (rfl : (.f32 : EltTy) = .f32) shapeCasts_S256x512x1_S256x512,
    binary main_v63 main_v61 main_v64 ((fun l r => Host.dotGeneral dot_S256x512_S64x512x512_S256x64x512_1_1_0_02_n_n none l r) : (⟨S256x512, .f32⟩ : BufTy).Contents (Elt F) → (⟨S64x512x512, .f32⟩ : BufTy).Contents (Elt F) → (⟨S256x64x512, .f32⟩ : BufTy).Contents (Elt F)),
    unary main_v64 main_v65 ((transpose S64x256x512 [1, 0, 2] · transposes_S256x64x512_S64x256x512_1_0_2) : (⟨S256x64x512, .f32⟩ : BufTy).Contents (Elt F) → (⟨S64x256x512, .f32⟩ : BufTy).Contents (Elt F)),
    nullary main_cst_3 (constant S_ .f32 0x00000000#32),
    unary main_cst_3 main_v66 (broadcastInDim S64x256x512 ![] bcast_S_S64x256x512 : (⟨S_, .f32⟩ : BufTy).Contents (Elt F) → (⟨S64x256x512, .f32⟩ : BufTy).Contents (Elt F)),
    binary main_v66 main_v65 main_v67 (addf : (⟨S64x256x512, .f32⟩ : BufTy).Contents (Elt F) → (⟨S64x256x512, .f32⟩ : BufTy).Contents (Elt F) → (⟨S64x256x512, .f32⟩ : BufTy).Contents (Elt F)),
    unary main_v60 main_v68 ((extractStridedSlice S64x512x512 ![0, 0, 1] · slices_S64x512x514_S64x512x512_0_0_1) : (⟨S64x512x514, .f32⟩ : BufTy).Contents (Elt F) → (⟨S64x512x512, .f32⟩ : BufTy).Contents (Elt F)),
    unary main_arg5 main_v69 ((extractStridedSlice S256x512x1 ![0, 0, 1] · slices_S256x512x3_S256x512x1_0_0_1) : (⟨S256x512x3, .f32⟩ : BufTy).Contents (Elt F) → (⟨S256x512x1, .f32⟩ : BufTy).Contents (Elt F)),
    reshape main_v69 main_v70 (rfl : (.f32 : EltTy) = .f32) shapeCasts_S256x512x1_S256x512,
    binary main_v70 main_v68 main_v71 ((fun l r => Host.dotGeneral dot_S256x512_S64x512x512_S256x64x512_1_1_0_02_n_n none l r) : (⟨S256x512, .f32⟩ : BufTy).Contents (Elt F) → (⟨S64x512x512, .f32⟩ : BufTy).Contents (Elt F) → (⟨S256x64x512, .f32⟩ : BufTy).Contents (Elt F)),
    unary main_v71 main_v72 ((transpose S64x256x512 [1, 0, 2] · transposes_S256x64x512_S64x256x512_1_0_2) : (⟨S256x64x512, .f32⟩ : BufTy).Contents (Elt F) → (⟨S64x256x512, .f32⟩ : BufTy).Contents (Elt F)),
    binary main_v67 main_v72 main_v73 (addf : (⟨S64x256x512, .f32⟩ : BufTy).Contents (Elt F) → (⟨S64x256x512, .f32⟩ : BufTy).Contents (Elt F) → (⟨S64x256x512, .f32⟩ : BufTy).Contents (Elt F)),
    unary main_v60 main_v74 ((extractStridedSlice S64x512x512 ![0, 0, 2] · slices_S64x512x514_S64x512x512_0_0_2) : (⟨S64x512x514, .f32⟩ : BufTy).Contents (Elt F) → (⟨S64x512x512, .f32⟩ : BufTy).Contents (Elt F)),
    unary main_arg5 main_v75 ((extractStridedSlice S256x512x1 ![0, 0, 2] · slices_S256x512x3_S256x512x1_0_0_2) : (⟨S256x512x3, .f32⟩ : BufTy).Contents (Elt F) → (⟨S256x512x1, .f32⟩ : BufTy).Contents (Elt F)),
    reshape main_v75 main_v76 (rfl : (.f32 : EltTy) = .f32) shapeCasts_S256x512x1_S256x512,
    binary main_v76 main_v74 main_v77 ((fun l r => Host.dotGeneral dot_S256x512_S64x512x512_S256x64x512_1_1_0_02_n_n none l r) : (⟨S256x512, .f32⟩ : BufTy).Contents (Elt F) → (⟨S64x512x512, .f32⟩ : BufTy).Contents (Elt F) → (⟨S256x64x512, .f32⟩ : BufTy).Contents (Elt F)),
    unary main_v77 main_v78 ((transpose S64x256x512 [1, 0, 2] · transposes_S256x64x512_S64x256x512_1_0_2) : (⟨S256x64x512, .f32⟩ : BufTy).Contents (Elt F) → (⟨S64x256x512, .f32⟩ : BufTy).Contents (Elt F)),
    binary main_v73 main_v78 main_v79 (addf : (⟨S64x256x512, .f32⟩ : BufTy).Contents (Elt F) → (⟨S64x256x512, .f32⟩ : BufTy).Contents (Elt F) → (⟨S64x256x512, .f32⟩ : BufTy).Contents (Elt F)),
    unary main_arg6 main_v80 (broadcastInDim S1x256x1 ![1] bcast_S256_S1x256x1_1 : (⟨S256, .f32⟩ : BufTy).Contents (Elt F) → (⟨S1x256x1, .f32⟩ : BufTy).Contents (Elt F)),
    unary main_v80 main_v81 (broadcastInDim S64x256x512 ![0, 1, 2] bcast_S1x256x1_S64x256x512_0_1_2 : (⟨S1x256x1, .f32⟩ : BufTy).Contents (Elt F) → (⟨S64x256x512, .f32⟩ : BufTy).Contents (Elt F)),
    binary main_v79 main_v81 main_v82 (addf : (⟨S64x256x512, .f32⟩ : BufTy).Contents (Elt F) → (⟨S64x256x512, .f32⟩ : BufTy).Contents (Elt F) → (⟨S64x256x512, .f32⟩ : BufTy).Contents (Elt F)),
    unary main_v82 main_v83 ((transpose S64x512x256 [0, 2, 1] · transposes_S64x256x512_S64x512x256_0_2_1) : (⟨S64x256x512, .f32⟩ : BufTy).Contents (Elt F) → (⟨S64x512x256, .f32⟩ : BufTy).Contents (Elt F)) ]

/-- @main's operations 98 … 113 of 118: the squared distances. -/
abbrev opsE : List (HloOp τ sig (Elt F)) :=
  [ binary main_v83 main_v83 main_v84 (mulf : (⟨S64x512x256, .f32⟩ : BufTy).Contents (Elt F) → (⟨S64x512x256, .f32⟩ : BufTy).Contents (Elt F) → (⟨S64x512x256, .f32⟩ : BufTy).Contents (Elt F)),
    nullary main_cst_4 (constant S_ .f32 0x00000000#32),
    binary main_v84 main_cst_4 main_v85 ((fun x v => Host.reduceAdd x v reducesTo_S64x512x256_S64x512_d2 h_S_) : (⟨S64x512x256, .f32⟩ : BufTy).Contents (Elt F) → (⟨S_, .f32⟩ : BufTy).Contents (Elt F) → (⟨S64x512, .f32⟩ : BufTy).Contents (Elt F)),
    unary main_v85 main_v86 (broadcastInDim S64x512x1 ![0, 1] bcast_S64x512_S64x512x1_0_1 : (⟨S64x512, .f32⟩ : BufTy).Contents (Elt F) → (⟨S64x512x1, .f32⟩ : BufTy).Contents (Elt F)),
    binary main_v83 main_arg7 main_v87 ((fun l r => Host.dotGeneral dot_S64x512x256_S1024x256_S64x512x1024_2_1_01_0_n_n none l r) : (⟨S64x512x256, .f32⟩ : BufTy).Contents (Elt F) → (⟨S1024x256, .f32⟩ : BufTy).Contents (Elt F) → (⟨S64x512x1024, .f32⟩ : BufTy).Contents (Elt F)),
    nullary main_cst_5 (constant S_ .f32 0x40000000#32),
    unary main_cst_5 main_v88 (broadcastInDim S64x512x1024 ![] bcast_S_S64x512x1024 : (⟨S_, .f32⟩ : BufTy).Contents (Elt F) → (⟨S64x512x1024, .f32⟩ : BufTy).Contents (Elt F)),
    binary main_v88 main_v87 main_v89 (mulf : (⟨S64x512x1024, .f32⟩ : BufTy).Contents (Elt F) → (⟨S64x512x1024, .f32⟩ : BufTy).Contents (Elt F) → (⟨S64x512x1024, .f32⟩ : BufTy).Contents (Elt F)),
    unary main_v86 main_v90 (broadcastInDim S64x512x1024 ![0, 1, 2] bcast_S64x512x1_S64x512x1024_0_1_2 : (⟨S64x512x1, .f32⟩ : BufTy).Contents (Elt F) → (⟨S64x512x1024, .f32⟩ : BufTy).Contents (Elt F)),
    binary main_v90 main_v89 main_v91 (subf : (⟨S64x512x1024, .f32⟩ : BufTy).Contents (Elt F) → (⟨S64x512x1024, .f32⟩ : BufTy).Contents (Elt F) → (⟨S64x512x1024, .f32⟩ : BufTy).Contents (Elt F)),
    binary main_arg7 main_arg7 main_v92 (mulf : (⟨S1024x256, .f32⟩ : BufTy).Contents (Elt F) → (⟨S1024x256, .f32⟩ : BufTy).Contents (Elt F) → (⟨S1024x256, .f32⟩ : BufTy).Contents (Elt F)),
    nullary main_cst_6 (constant S_ .f32 0x00000000#32),
    binary main_v92 main_cst_6 main_v93 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v93 main_v94 (broadcastInDim S1x1x1024 ![2] bcast_S1024_S1x1x1024_2 : (⟨S1024, .f32⟩ : BufTy).Contents (Elt F) → (⟨S1x1x1024, .f32⟩ : BufTy).Contents (Elt F)),
    unary main_v94 main_v95 (broadcastInDim S64x512x1024 ![0, 1, 2] bcast_S1x1x1024_S64x512x1024_0_1_2 : (⟨S1x1x1024, .f32⟩ : BufTy).Contents (Elt F) → (⟨S64x512x1024, .f32⟩ : BufTy).Contents (Elt F)),
    binary main_v91 main_v95 main_v96 (addf : (⟨S64x512x1024, .f32⟩ : BufTy).Contents (Elt F) → (⟨S64x512x1024, .f32⟩ : BufTy).Contents (Elt F) → (⟨S64x512x1024, .f32⟩ : BufTy).Contents (Elt F)) ]

/-- @main's operations 114 … 118 of 118: the argmin of the distances. -/
abbrev opsF : List (HloOp τ sig (Elt F)) :=
  [ TRef.nullary (TRef.of (T := ⟨S64x512x1024, .i32⟩) main_call5_v0) (iotaInDim S64x512x1024 32 2),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S64x512x1024, .f32⟩) main_v96) (TRef.of (T := ⟨S64x512x1024, .i32⟩) main_call5_v0) (TRef.of (T := ⟨S_, .f32⟩) main_call5_cst) (TRef.of (T := ⟨S_, .i32⟩) main_call5_c) (TRef.of (T := ⟨S64x512, .f32⟩) main_call5_v1_0) (fun x y u v j => (Host.argReduce reducer_argmin_f32_i32 x y u v reducesTo_S64x512x1024_S64x512_d2 h_S_ j).1),
    TRef.quaternary (TRef.of (T := ⟨S64x512x1024, .f32⟩) main_v96) (TRef.of (T := ⟨S64x512x1024, .i32⟩) main_call5_v0) (TRef.of (T := ⟨S_, .f32⟩) main_call5_cst) (TRef.of (T := ⟨S_, .i32⟩) main_call5_c) (TRef.of (T := ⟨S64x512, .i32⟩) main_v97) (fun x y u v j => (Host.argReduce reducer_argmin_f32_i32 x y u v reducesTo_S64x512x1024_S64x512_d2 h_S_ j).2) ]

/-- The operations of @main's first printed part. -/
def part0 : List (HloOp τ sig (Elt F)) := opsA ++ opsB
/-- The operations of @main's second printed part. -/
def part1 : List (HloOp τ sig (Elt F)) := opsC ++ (opsD ++ (opsE ++ opsF))
/-- @main's operations in order. -/
abbrev ops : List (HloOp τ sig (Elt F)) := part0 ++ part1

set_option maxRecDepth 8192 in
set_option maxHeartbeats 4000000 in
/-- The first printed part is its operations in sequence. -/
theorem main_part0_eq (c : Dev nD) : main_part0 (F := F) c = seq part0 := rfl
set_option maxRecDepth 8192 in
set_option maxHeartbeats 4000000 in
/-- The second printed part is its operations in sequence. -/
theorem main_part1_eq (c : Dev nD) : main_part1 (F := F) c = seq part1 := rfl
set_option maxRecDepth 8192 in
/-- @main is its operations in sequence. -/
theorem main_eq (c : Dev nD) : main (F := F) c = seq ops := by
  simp only [ops, seq_append, ← main_part0_eq c, ← main_part1_eq c]
  rfl
/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

set_option maxRecDepth 8192 in
/-- Every operation of `opsA` names TensorCore buffers only. -/
theorem opsA_sub : (opsA : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩
set_option maxRecDepth 8192 in
/-- No operation of `opsA` allocates. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `opsB` names TensorCore buffers only. -/
theorem opsB_sub : (opsB : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩
set_option maxRecDepth 8192 in
/-- No operation of `opsB` allocates. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `opsC` names TensorCore buffers only. -/
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub ..⟩
set_option maxRecDepth 8192 in
/-- No operation of `opsC` allocates. -/
theorem opsC_fresh : (opsC : List (HloOp τ sig (Elt F))).Forall fun op => op.fresh = ∅ :=
  ⟨rfl, rfl, rfl, rfl, rfl, rfl⟩
set_option maxRecDepth 8192 in
/-- Every operation of `opsD` names TensorCore buffers only. -/
theorem opsD_sub : (opsD : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., unary_bufs_sub ..⟩
set_option maxRecDepth 8192 in
/-- No operation of `opsD` allocates. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `opsE` names TensorCore buffers only. -/
theorem opsE_sub : (opsE : List (HloOp τ sig (Elt F))).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
set_option maxRecDepth 8192 in
/-- No operation of `opsE` allocates. -/
theorem opsE_fresh : (opsE : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
/-- Every operation of `opsF` names TensorCore buffers only. -/
theorem opsF_sub : (opsF : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
/-- No operation of `opsF` allocates. -/
theorem opsF_fresh : (opsF : List (HloOp τ sig (Elt F))).Forall fun op => op.fresh = ∅ :=
  ⟨rfl, rfl, rfl, rfl, rfl⟩

/-- Every operation names TensorCore buffers only. -/
theorem ops_sub : (ops : List (HloOp τ sig (Elt F))).Forall fun op => op.bufs ⊆ tcRefs τ sig :=
  List.forall_iff_forall_mem.mpr fun op h => by
    simp only [ops, part0, part1, List.mem_append, or_assoc] at h
    rcases h with h | h | h | h | h | h
    exacts [List.forall_iff_forall_mem.mp opsA_sub op h, List.forall_iff_forall_mem.mp opsB_sub op h, List.forall_iff_forall_mem.mp opsC_sub op h,
      List.forall_iff_forall_mem.mp opsD_sub op h, List.forall_iff_forall_mem.mp opsE_sub op h, List.forall_iff_forall_mem.mp opsF_sub op h]
/-- No operation allocates. -/
theorem ops_fresh : ∀ op ∈ (ops : List (HloOp τ sig (Elt F))), op.fresh = ∅ := fun op h => by
    simp only [ops, part0, part1, List.mem_append, or_assoc] at h
    rcases h with h | h | h | h | h | h
    exacts [List.forall_iff_forall_mem.mp opsA_fresh op h, List.forall_iff_forall_mem.mp opsB_fresh op h, List.forall_iff_forall_mem.mp opsC_fresh op h,
      List.forall_iff_forall_mem.mp opsD_fresh op h, List.forall_iff_forall_mem.mp opsE_fresh op h, List.forall_iff_forall_mem.mp opsF_fresh op h]

/-! ## The contents after each layer -/

/-- Before the first operation: the launch's contents. -/
def at0 (V0 : Valuation τ sig (Elt F)) : Valuation τ sig (Elt F) := V0
/-- Argument 0 at the start. -/
theorem at0_main_arg0 (V0 : Valuation τ sig (Elt F)) : at0 V0 (no_index (Proc.devRef .tc main_arg0)) = V0 (Proc.devRef .tc main_arg0) := rfl
/-- Argument 1 at the start. -/
theorem at0_main_arg1 (V0 : Valuation τ sig (Elt F)) : at0 V0 (no_index (Proc.devRef .tc main_arg1)) = V0 (Proc.devRef .tc main_arg1) := rfl
/-- Argument 2 at the start. -/
theorem at0_main_arg2 (V0 : Valuation τ sig (Elt F)) : at0 V0 (no_index (Proc.devRef .tc main_arg2)) = V0 (Proc.devRef .tc main_arg2) := rfl
/-- Argument 3 at the start. -/
theorem at0_main_arg3 (V0 : Valuation τ sig (Elt F)) : at0 V0 (no_index (Proc.devRef .tc main_arg3)) = V0 (Proc.devRef .tc main_arg3) := rfl
/-- Argument 4 at the start. -/
theorem at0_main_arg4 (V0 : Valuation τ sig (Elt F)) : at0 V0 (no_index (Proc.devRef .tc main_arg4)) = V0 (Proc.devRef .tc main_arg4) := rfl
/-- Argument 5 at the start. -/
theorem at0_main_arg5 (V0 : Valuation τ sig (Elt F)) : at0 V0 (no_index (Proc.devRef .tc main_arg5)) = V0 (Proc.devRef .tc main_arg5) := rfl
/-- Argument 6 at the start. -/
theorem at0_main_arg6 (V0 : Valuation τ sig (Elt F)) : at0 V0 (no_index (Proc.devRef .tc main_arg6)) = V0 (Proc.devRef .tc main_arg6) := rfl
/-- Argument 7 at the start. -/
theorem at0_main_arg7 (V0 : Valuation τ sig (Elt F)) : at0 V0 (no_index (Proc.devRef .tc main_arg7)) = V0 (Proc.devRef .tc main_arg7) := rfl

/-- The contents after `opsA`. -/
def at1 (V0 : Valuation τ sig (Elt F)) : Valuation τ sig (Elt F) := after opsA (at0 V0)
/-- The buffers `opsA` writes. -/
abbrev opsA_W : List (Ref sig .tc) := [main_c, main_call0_v0, main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25, main_v26, main_v27, main_v28, main_call1_cst, main_call1_v0, main_v29]
set_option maxRecDepth 8192 in
/-- `opsA` writes no other buffer. -/
theorem opsA_writes : (opsA : List (HloOp τ sig (Elt F))).Forall fun op => op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, quaternary_writes, reshape_writes, Finset.singleton_subset_iff, List.mem_toFinset]
    exact List.mem_map_of_mem (by decide)
/-- A buffer `opsA` does not write keeps its contents. -/
theorem at1_keep (V0 : Valuation τ sig (Elt F)) (r : Ref sig .tc) (h : r ∉ opsA_W) :
    at1 V0 (Proc.devRef .tc r) = at0 V0 (Proc.devRef .tc r) :=
  after_of_writes_sub opsA _ opsA_writes h
/-- Argument 0 after `opsA`. -/
theorem at1_main_arg0 (V0 : Valuation τ sig (Elt F)) : at1 V0 (no_index (Proc.devRef .tc main_arg0)) = V0 (Proc.devRef .tc main_arg0) :=
  (at1_keep V0 main_arg0 (by decide)).trans (at0_main_arg0 V0)
/-- Argument 1 after `opsA`. -/
theorem at1_main_arg1 (V0 : Valuation τ sig (Elt F)) : at1 V0 (no_index (Proc.devRef .tc main_arg1)) = V0 (Proc.devRef .tc main_arg1) :=
  (at1_keep V0 main_arg1 (by decide)).trans (at0_main_arg1 V0)
/-- Argument 2 after `opsA`. -/
theorem at1_main_arg2 (V0 : Valuation τ sig (Elt F)) : at1 V0 (no_index (Proc.devRef .tc main_arg2)) = V0 (Proc.devRef .tc main_arg2) :=
  (at1_keep V0 main_arg2 (by decide)).trans (at0_main_arg2 V0)
/-- Argument 3 after `opsA`. -/
theorem at1_main_arg3 (V0 : Valuation τ sig (Elt F)) : at1 V0 (no_index (Proc.devRef .tc main_arg3)) = V0 (Proc.devRef .tc main_arg3) :=
  (at1_keep V0 main_arg3 (by decide)).trans (at0_main_arg3 V0)
/-- Argument 4 after `opsA`. -/
theorem at1_main_arg4 (V0 : Valuation τ sig (Elt F)) : at1 V0 (no_index (Proc.devRef .tc main_arg4)) = V0 (Proc.devRef .tc main_arg4) :=
  (at1_keep V0 main_arg4 (by decide)).trans (at0_main_arg4 V0)
/-- Argument 5 after `opsA`. -/
theorem at1_main_arg5 (V0 : Valuation τ sig (Elt F)) : at1 V0 (no_index (Proc.devRef .tc main_arg5)) = V0 (Proc.devRef .tc main_arg5) :=
  (at1_keep V0 main_arg5 (by decide)).trans (at0_main_arg5 V0)
/-- Argument 6 after `opsA`. -/
theorem at1_main_arg6 (V0 : Valuation τ sig (Elt F)) : at1 V0 (no_index (Proc.devRef .tc main_arg6)) = V0 (Proc.devRef .tc main_arg6) :=
  (at1_keep V0 main_arg6 (by decide)).trans (at0_main_arg6 V0)
/-- Argument 7 after `opsA`. -/
theorem at1_main_arg7 (V0 : Valuation τ sig (Elt F)) : at1 V0 (no_index (Proc.devRef .tc main_arg7)) = V0 (Proc.devRef .tc main_arg7) :=
  (at1_keep V0 main_arg7 (by decide)).trans (at0_main_arg7 V0)
set_option maxRecDepth 8192 in
set_option maxHeartbeats 4000000 in
/-- What `opsA` computes: the first convolution and its rectifier. -/
theorem at1_main_v29 (V0 : Valuation τ sig (Elt F)) : at1 V0 (no_index (Proc.devRef .tc main_v29)) = layer1 (V0 (Proc.devRef .tc main_arg0)) (V0 (Proc.devRef .tc main_arg1)) (V0 (Proc.devRef .tc main_arg2)) := by
  unfold at1
  simp only [opsA, TRef.binary, TRef.nullary, TRef.unary, TRef.quaternary, TRef.toBuf, TRef.ofBuf, cast_eq]
  after_results_simp
  simp only [at0_main_arg0, at0_main_arg1, at0_main_arg2] <;> rfl

/-- The contents after `opsB`. -/
def at2 (V0 : Valuation τ sig (Elt F)) : Valuation τ sig (Elt F) := after opsB (at1 V0)
/-- The buffers `opsB` writes. -/
abbrev opsB_W : List (Ref sig .tc) := [main_c_0, main_call2_v0, main_v30, main_v31, main_v32, main_v33, main_v34, main_v35, main_cst_1, main_v36, main_v37, main_v38, main_v39, main_v40, main_v41, main_v42, main_v43, main_v44, main_v45, main_v46, main_v47, main_v48, main_v49, main_v50, main_v51, main_v52, main_v53, main_v54, main_v55]
set_option maxRecDepth 8192 in
/-- `opsB` writes no other buffer. -/
theorem opsB_writes : (opsB : List (HloOp τ sig (Elt F))).Forall fun op => op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, quaternary_writes, reshape_writes, Finset.singleton_subset_iff, List.mem_toFinset]
    exact List.mem_map_of_mem (by decide)
/-- A buffer `opsB` does not write keeps its contents. -/
theorem at2_keep (V0 : Valuation τ sig (Elt F)) (r : Ref sig .tc) (h : r ∉ opsB_W) :
    at2 V0 (Proc.devRef .tc r) = at1 V0 (Proc.devRef .tc r) :=
  after_of_writes_sub opsB _ opsB_writes h
/-- Argument 0 after `opsB`. -/
theorem at2_main_arg0 (V0 : Valuation τ sig (Elt F)) : at2 V0 (no_index (Proc.devRef .tc main_arg0)) = V0 (Proc.devRef .tc main_arg0) :=
  (at2_keep V0 main_arg0 (by decide)).trans (at1_main_arg0 V0)
/-- Argument 1 after `opsB`. -/
theorem at2_main_arg1 (V0 : Valuation τ sig (Elt F)) : at2 V0 (no_index (Proc.devRef .tc main_arg1)) = V0 (Proc.devRef .tc main_arg1) :=
  (at2_keep V0 main_arg1 (by decide)).trans (at1_main_arg1 V0)
/-- Argument 2 after `opsB`. -/
theorem at2_main_arg2 (V0 : Valuation τ sig (Elt F)) : at2 V0 (no_index (Proc.devRef .tc main_arg2)) = V0 (Proc.devRef .tc main_arg2) :=
  (at2_keep V0 main_arg2 (by decide)).trans (at1_main_arg2 V0)
/-- Argument 3 after `opsB`. -/
theorem at2_main_arg3 (V0 : Valuation τ sig (Elt F)) : at2 V0 (no_index (Proc.devRef .tc main_arg3)) = V0 (Proc.devRef .tc main_arg3) :=
  (at2_keep V0 main_arg3 (by decide)).trans (at1_main_arg3 V0)
/-- Argument 4 after `opsB`. -/
theorem at2_main_arg4 (V0 : Valuation τ sig (Elt F)) : at2 V0 (no_index (Proc.devRef .tc main_arg4)) = V0 (Proc.devRef .tc main_arg4) :=
  (at2_keep V0 main_arg4 (by decide)).trans (at1_main_arg4 V0)
/-- Argument 5 after `opsB`. -/
theorem at2_main_arg5 (V0 : Valuation τ sig (Elt F)) : at2 V0 (no_index (Proc.devRef .tc main_arg5)) = V0 (Proc.devRef .tc main_arg5) :=
  (at2_keep V0 main_arg5 (by decide)).trans (at1_main_arg5 V0)
/-- Argument 6 after `opsB`. -/
theorem at2_main_arg6 (V0 : Valuation τ sig (Elt F)) : at2 V0 (no_index (Proc.devRef .tc main_arg6)) = V0 (Proc.devRef .tc main_arg6) :=
  (at2_keep V0 main_arg6 (by decide)).trans (at1_main_arg6 V0)
/-- Argument 7 after `opsB`. -/
theorem at2_main_arg7 (V0 : Valuation τ sig (Elt F)) : at2 V0 (no_index (Proc.devRef .tc main_arg7)) = V0 (Proc.devRef .tc main_arg7) :=
  (at2_keep V0 main_arg7 (by decide)).trans (at1_main_arg7 V0)
set_option maxRecDepth 8192 in
set_option maxHeartbeats 4000000 in
/-- What `opsB` computes: the taps of the second convolution. -/
theorem at2_main_v55 (V0 : Valuation τ sig (Elt F)) : at2 V0 (no_index (Proc.devRef .tc main_v55)) = taps2 (layer1 (V0 (Proc.devRef .tc main_arg0)) (V0 (Proc.devRef .tc main_arg1)) (V0 (Proc.devRef .tc main_arg2))) (V0 (Proc.devRef .tc main_arg3)) := by
  unfold at2
  simp only [opsB, TRef.binary, TRef.nullary, TRef.unary, TRef.quaternary, TRef.toBuf, TRef.ofBuf, cast_eq]
  after_results_simp
  simp only [at1_main_arg3, at1_main_v29] <;> rfl

/-- The contents after `opsC`. -/
def at3 (V0 : Valuation τ sig (Elt F)) : Valuation τ sig (Elt F) := after opsC (at2 V0)
/-- The buffers `opsC` writes. -/
abbrev opsC_W : List (Ref sig .tc) := [main_v56, main_v57, main_v58, main_call3_cst, main_call3_v0, main_v59]
set_option maxRecDepth 8192 in
/-- `opsC` writes no other buffer. -/
theorem opsC_writes : (opsC : List (HloOp τ sig (Elt F))).Forall fun op => op.writes ⊆ (opsC_W.map (Proc.devRef (τ := τ) .tc)).toFinset := by
  simp only [List.Forall]
  refine ⟨?_, ?_, ?_, ?_, ?_, ?_⟩
  all_goals
    simp only [nullary_writes, unary_writes, binary_writes, quaternary_writes, reshape_writes, Finset.singleton_subset_iff, List.mem_toFinset]
    exact List.mem_map_of_mem (by decide)
/-- A buffer `opsC` does not write keeps its contents. -/
theorem at3_keep (V0 : Valuation τ sig (Elt F)) (r : Ref sig .tc) (h : r ∉ opsC_W) :
    at3 V0 (Proc.devRef .tc r) = at2 V0 (Proc.devRef .tc r) :=
  after_of_writes_sub opsC _ opsC_writes h
/-- Argument 0 after `opsC`. -/
theorem at3_main_arg0 (V0 : Valuation τ sig (Elt F)) : at3 V0 (no_index (Proc.devRef .tc main_arg0)) = V0 (Proc.devRef .tc main_arg0) :=
  (at3_keep V0 main_arg0 (by decide)).trans (at2_main_arg0 V0)
/-- Argument 1 after `opsC`. -/
theorem at3_main_arg1 (V0 : Valuation τ sig (Elt F)) : at3 V0 (no_index (Proc.devRef .tc main_arg1)) = V0 (Proc.devRef .tc main_arg1) :=
  (at3_keep V0 main_arg1 (by decide)).trans (at2_main_arg1 V0)
/-- Argument 2 after `opsC`. -/
theorem at3_main_arg2 (V0 : Valuation τ sig (Elt F)) : at3 V0 (no_index (Proc.devRef .tc main_arg2)) = V0 (Proc.devRef .tc main_arg2) :=
  (at3_keep V0 main_arg2 (by decide)).trans (at2_main_arg2 V0)
/-- Argument 3 after `opsC`. -/
theorem at3_main_arg3 (V0 : Valuation τ sig (Elt F)) : at3 V0 (no_index (Proc.devRef .tc main_arg3)) = V0 (Proc.devRef .tc main_arg3) :=
  (at3_keep V0 main_arg3 (by decide)).trans (at2_main_arg3 V0)
/-- Argument 4 after `opsC`. -/
theorem at3_main_arg4 (V0 : Valuation τ sig (Elt F)) : at3 V0 (no_index (Proc.devRef .tc main_arg4)) = V0 (Proc.devRef .tc main_arg4) :=
  (at3_keep V0 main_arg4 (by decide)).trans (at2_main_arg4 V0)
/-- Argument 5 after `opsC`. -/
theorem at3_main_arg5 (V0 : Valuation τ sig (Elt F)) : at3 V0 (no_index (Proc.devRef .tc main_arg5)) = V0 (Proc.devRef .tc main_arg5) :=
  (at3_keep V0 main_arg5 (by decide)).trans (at2_main_arg5 V0)
/-- Argument 6 after `opsC`. -/
theorem at3_main_arg6 (V0 : Valuation τ sig (Elt F)) : at3 V0 (no_index (Proc.devRef .tc main_arg6)) = V0 (Proc.devRef .tc main_arg6) :=
  (at3_keep V0 main_arg6 (by decide)).trans (at2_main_arg6 V0)
/-- Argument 7 after `opsC`. -/
theorem at3_main_arg7 (V0 : Valuation τ sig (Elt F)) : at3 V0 (no_index (Proc.devRef .tc main_arg7)) = V0 (Proc.devRef .tc main_arg7) :=
  (at3_keep V0 main_arg7 (by decide)).trans (at2_main_arg7 V0)
set_option maxRecDepth 8192 in
set_option maxHeartbeats 4000000 in
/-- What `opsC` computes: the bias and rectifier of the second convolution. -/
theorem at3_main_v59 (V0 : Valuation τ sig (Elt F)) : at3 V0 (no_index (Proc.devRef .tc main_v59)) = layer2 (taps2 (layer1 (V0 (Proc.devRef .tc main_arg0)) (V0 (Proc.devRef .tc main_arg1)) (V0 (Proc.devRef .tc main_arg2))) (V0 (Proc.devRef .tc main_arg3))) (V0 (Proc.devRef .tc main_arg4)) := by
  unfold at3
  simp only [opsC, TRef.binary, TRef.nullary, TRef.unary, TRef.quaternary, TRef.toBuf, TRef.ofBuf, cast_eq]
  after_results_simp
  simp only [at2_main_arg4, at2_main_v55] <;> rfl

/-- The contents after `opsD`. -/
def at4 (V0 : Valuation τ sig (Elt F)) : Valuation τ sig (Elt F) := after opsD (at3 V0)
/-- The buffers `opsD` writes. -/
abbrev opsD_W : List (Ref sig .tc) := [main_c_2, main_call4_v0, main_v60, main_v61, main_v62, main_v63, main_v64, main_v65, main_cst_3, main_v66, main_v67, main_v68, main_v69, main_v70, main_v71, main_v72, main_v73, main_v74, main_v75, main_v76, main_v77, main_v78, main_v79, main_v80, main_v81, main_v82, main_v83]
set_option maxRecDepth 8192 in
/-- `opsD` writes no other buffer. -/
theorem opsD_writes : (opsD : List (HloOp τ sig (Elt F))).Forall fun op => op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, quaternary_writes, reshape_writes, Finset.singleton_subset_iff, List.mem_toFinset]
    exact List.mem_map_of_mem (by decide)
/-- A buffer `opsD` does not write keeps its contents. -/
theorem at4_keep (V0 : Valuation τ sig (Elt F)) (r : Ref sig .tc) (h : r ∉ opsD_W) :
    at4 V0 (Proc.devRef .tc r) = at3 V0 (Proc.devRef .tc r) :=
  after_of_writes_sub opsD _ opsD_writes h
/-- Argument 0 after `opsD`. -/
theorem at4_main_arg0 (V0 : Valuation τ sig (Elt F)) : at4 V0 (no_index (Proc.devRef .tc main_arg0)) = V0 (Proc.devRef .tc main_arg0) :=
  (at4_keep V0 main_arg0 (by decide)).trans (at3_main_arg0 V0)
/-- Argument 1 after `opsD`. -/
theorem at4_main_arg1 (V0 : Valuation τ sig (Elt F)) : at4 V0 (no_index (Proc.devRef .tc main_arg1)) = V0 (Proc.devRef .tc main_arg1) :=
  (at4_keep V0 main_arg1 (by decide)).trans (at3_main_arg1 V0)
/-- Argument 2 after `opsD`. -/
theorem at4_main_arg2 (V0 : Valuation τ sig (Elt F)) : at4 V0 (no_index (Proc.devRef .tc main_arg2)) = V0 (Proc.devRef .tc main_arg2) :=
  (at4_keep V0 main_arg2 (by decide)).trans (at3_main_arg2 V0)
/-- Argument 3 after `opsD`. -/
theorem at4_main_arg3 (V0 : Valuation τ sig (Elt F)) : at4 V0 (no_index (Proc.devRef .tc main_arg3)) = V0 (Proc.devRef .tc main_arg3) :=
  (at4_keep V0 main_arg3 (by decide)).trans (at3_main_arg3 V0)
/-- Argument 4 after `opsD`. -/
theorem at4_main_arg4 (V0 : Valuation τ sig (Elt F)) : at4 V0 (no_index (Proc.devRef .tc main_arg4)) = V0 (Proc.devRef .tc main_arg4) :=
  (at4_keep V0 main_arg4 (by decide)).trans (at3_main_arg4 V0)
/-- Argument 5 after `opsD`. -/
theorem at4_main_arg5 (V0 : Valuation τ sig (Elt F)) : at4 V0 (no_index (Proc.devRef .tc main_arg5)) = V0 (Proc.devRef .tc main_arg5) :=
  (at4_keep V0 main_arg5 (by decide)).trans (at3_main_arg5 V0)
/-- Argument 6 after `opsD`. -/
theorem at4_main_arg6 (V0 : Valuation τ sig (Elt F)) : at4 V0 (no_index (Proc.devRef .tc main_arg6)) = V0 (Proc.devRef .tc main_arg6) :=
  (at4_keep V0 main_arg6 (by decide)).trans (at3_main_arg6 V0)
/-- Argument 7 after `opsD`. -/
theorem at4_main_arg7 (V0 : Valuation τ sig (Elt F)) : at4 V0 (no_index (Proc.devRef .tc main_arg7)) = V0 (Proc.devRef .tc main_arg7) :=
  (at4_keep V0 main_arg7 (by decide)).trans (at3_main_arg7 V0)
set_option maxRecDepth 8192 in
set_option maxHeartbeats 4000000 in
/-- What `opsD` computes: the third convolution, its channels moved last. -/
theorem at4_main_v83 (V0 : Valuation τ sig (Elt F)) : at4 V0 (no_index (Proc.devRef .tc main_v83)) = layer3 (layer2 (taps2 (layer1 (V0 (Proc.devRef .tc main_arg0)) (V0 (Proc.devRef .tc main_arg1)) (V0 (Proc.devRef .tc main_arg2))) (V0 (Proc.devRef .tc main_arg3))) (V0 (Proc.devRef .tc main_arg4))) (V0 (Proc.devRef .tc main_arg5)) (V0 (Proc.devRef .tc main_arg6)) := by
  unfold at4
  simp only [opsD, TRef.binary, TRef.nullary, TRef.unary, TRef.quaternary, TRef.toBuf, TRef.ofBuf, cast_eq]
  after_results_simp
  simp only [at3_main_arg5, at3_main_arg6, at3_main_v59] <;> rfl

/-- The contents after `opsE`. -/
def at5 (V0 : Valuation τ sig (Elt F)) : Valuation τ sig (Elt F) := after opsE (at4 V0)
/-- The buffers `opsE` writes. -/
abbrev opsE_W : List (Ref sig .tc) := [main_v84, main_cst_4, main_v85, main_v86, main_v87, main_cst_5, main_v88, main_v89, main_v90, main_v91, main_v92, main_cst_6, main_v93, main_v94, main_v95, main_v96]
set_option maxRecDepth 8192 in
/-- `opsE` writes no other buffer. -/
theorem opsE_writes : (opsE : List (HloOp τ sig (Elt F))).Forall fun op => op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_⟩
  all_goals
    simp only [nullary_writes, unary_writes, binary_writes, quaternary_writes, reshape_writes, Finset.singleton_subset_iff, List.mem_toFinset]
    exact List.mem_map_of_mem (by decide)
/-- A buffer `opsE` does not write keeps its contents. -/
theorem at5_keep (V0 : Valuation τ sig (Elt F)) (r : Ref sig .tc) (h : r ∉ opsE_W) :
    at5 V0 (Proc.devRef .tc r) = at4 V0 (Proc.devRef .tc r) :=
  after_of_writes_sub opsE _ opsE_writes h
/-- Argument 0 after `opsE`. -/
theorem at5_main_arg0 (V0 : Valuation τ sig (Elt F)) : at5 V0 (no_index (Proc.devRef .tc main_arg0)) = V0 (Proc.devRef .tc main_arg0) :=
  (at5_keep V0 main_arg0 (by decide)).trans (at4_main_arg0 V0)
/-- Argument 1 after `opsE`. -/
theorem at5_main_arg1 (V0 : Valuation τ sig (Elt F)) : at5 V0 (no_index (Proc.devRef .tc main_arg1)) = V0 (Proc.devRef .tc main_arg1) :=
  (at5_keep V0 main_arg1 (by decide)).trans (at4_main_arg1 V0)
/-- Argument 2 after `opsE`. -/
theorem at5_main_arg2 (V0 : Valuation τ sig (Elt F)) : at5 V0 (no_index (Proc.devRef .tc main_arg2)) = V0 (Proc.devRef .tc main_arg2) :=
  (at5_keep V0 main_arg2 (by decide)).trans (at4_main_arg2 V0)
/-- Argument 3 after `opsE`. -/
theorem at5_main_arg3 (V0 : Valuation τ sig (Elt F)) : at5 V0 (no_index (Proc.devRef .tc main_arg3)) = V0 (Proc.devRef .tc main_arg3) :=
  (at5_keep V0 main_arg3 (by decide)).trans (at4_main_arg3 V0)
/-- Argument 4 after `opsE`. -/
theorem at5_main_arg4 (V0 : Valuation τ sig (Elt F)) : at5 V0 (no_index (Proc.devRef .tc main_arg4)) = V0 (Proc.devRef .tc main_arg4) :=
  (at5_keep V0 main_arg4 (by decide)).trans (at4_main_arg4 V0)
/-- Argument 5 after `opsE`. -/
theorem at5_main_arg5 (V0 : Valuation τ sig (Elt F)) : at5 V0 (no_index (Proc.devRef .tc main_arg5)) = V0 (Proc.devRef .tc main_arg5) :=
  (at5_keep V0 main_arg5 (by decide)).trans (at4_main_arg5 V0)
/-- Argument 6 after `opsE`. -/
theorem at5_main_arg6 (V0 : Valuation τ sig (Elt F)) : at5 V0 (no_index (Proc.devRef .tc main_arg6)) = V0 (Proc.devRef .tc main_arg6) :=
  (at5_keep V0 main_arg6 (by decide)).trans (at4_main_arg6 V0)
/-- Argument 7 after `opsE`. -/
theorem at5_main_arg7 (V0 : Valuation τ sig (Elt F)) : at5 V0 (no_index (Proc.devRef .tc main_arg7)) = V0 (Proc.devRef .tc main_arg7) :=
  (at5_keep V0 main_arg7 (by decide)).trans (at4_main_arg7 V0)
set_option maxRecDepth 8192 in
set_option maxHeartbeats 4000000 in
/-- What `opsE` computes: the squared distances. -/
theorem at5_main_v96 (V0 : Valuation τ sig (Elt F)) : at5 V0 (no_index (Proc.devRef .tc main_v96)) = dists (layer3 (layer2 (taps2 (layer1 (V0 (Proc.devRef .tc main_arg0)) (V0 (Proc.devRef .tc main_arg1)) (V0 (Proc.devRef .tc main_arg2))) (V0 (Proc.devRef .tc main_arg3))) (V0 (Proc.devRef .tc main_arg4))) (V0 (Proc.devRef .tc main_arg5)) (V0 (Proc.devRef .tc main_arg6))) (V0 (Proc.devRef .tc main_arg7)) := by
  unfold at5
  simp only [opsE, TRef.binary, TRef.nullary, TRef.unary, TRef.quaternary, TRef.toBuf, TRef.ofBuf, cast_eq]
  after_results_simp
  simp only [at4_main_arg7, at4_main_v83] <;> rfl

/-- The contents after `opsF`. -/
def at6 (V0 : Valuation τ sig (Elt F)) : Valuation τ sig (Elt F) := after opsF (at5 V0)
/-- The buffers `opsF` writes. -/
abbrev opsF_W : List (Ref sig .tc) := [main_call5_v0, main_call5_cst, main_call5_c, main_call5_v1_0, main_v97]
set_option maxRecDepth 8192 in
/-- `opsF` writes no other buffer. -/
theorem opsF_writes : (opsF : List (HloOp τ sig (Elt F))).Forall fun op => op.writes ⊆ (opsF_W.map (Proc.devRef (τ := τ) .tc)).toFinset := by
  simp only [List.Forall]
  refine ⟨?_, ?_, ?_, ?_, ?_⟩
  all_goals
    simp only [nullary_writes, unary_writes, binary_writes, quaternary_writes, reshape_writes, Finset.singleton_subset_iff, List.mem_toFinset]
    exact List.mem_map_of_mem (by decide)
/-- A buffer `opsF` does not write keeps its contents. -/
theorem at6_keep (V0 : Valuation τ sig (Elt F)) (r : Ref sig .tc) (h : r ∉ opsF_W) :
    at6 V0 (Proc.devRef .tc r) = at5 V0 (Proc.devRef .tc r) :=
  after_of_writes_sub opsF _ opsF_writes h
/-- Argument 0 after `opsF`. -/
theorem at6_main_arg0 (V0 : Valuation τ sig (Elt F)) : at6 V0 (no_index (Proc.devRef .tc main_arg0)) = V0 (Proc.devRef .tc main_arg0) :=
  (at6_keep V0 main_arg0 (by decide)).trans (at5_main_arg0 V0)
/-- Argument 1 after `opsF`. -/
theorem at6_main_arg1 (V0 : Valuation τ sig (Elt F)) : at6 V0 (no_index (Proc.devRef .tc main_arg1)) = V0 (Proc.devRef .tc main_arg1) :=
  (at6_keep V0 main_arg1 (by decide)).trans (at5_main_arg1 V0)
/-- Argument 2 after `opsF`. -/
theorem at6_main_arg2 (V0 : Valuation τ sig (Elt F)) : at6 V0 (no_index (Proc.devRef .tc main_arg2)) = V0 (Proc.devRef .tc main_arg2) :=
  (at6_keep V0 main_arg2 (by decide)).trans (at5_main_arg2 V0)
/-- Argument 3 after `opsF`. -/
theorem at6_main_arg3 (V0 : Valuation τ sig (Elt F)) : at6 V0 (no_index (Proc.devRef .tc main_arg3)) = V0 (Proc.devRef .tc main_arg3) :=
  (at6_keep V0 main_arg3 (by decide)).trans (at5_main_arg3 V0)
/-- Argument 4 after `opsF`. -/
theorem at6_main_arg4 (V0 : Valuation τ sig (Elt F)) : at6 V0 (no_index (Proc.devRef .tc main_arg4)) = V0 (Proc.devRef .tc main_arg4) :=
  (at6_keep V0 main_arg4 (by decide)).trans (at5_main_arg4 V0)
/-- Argument 5 after `opsF`. -/
theorem at6_main_arg5 (V0 : Valuation τ sig (Elt F)) : at6 V0 (no_index (Proc.devRef .tc main_arg5)) = V0 (Proc.devRef .tc main_arg5) :=
  (at6_keep V0 main_arg5 (by decide)).trans (at5_main_arg5 V0)
/-- Argument 6 after `opsF`. -/
theorem at6_main_arg6 (V0 : Valuation τ sig (Elt F)) : at6 V0 (no_index (Proc.devRef .tc main_arg6)) = V0 (Proc.devRef .tc main_arg6) :=
  (at6_keep V0 main_arg6 (by decide)).trans (at5_main_arg6 V0)
/-- Argument 7 after `opsF`. -/
theorem at6_main_arg7 (V0 : Valuation τ sig (Elt F)) : at6 V0 (no_index (Proc.devRef .tc main_arg7)) = V0 (Proc.devRef .tc main_arg7) :=
  (at6_keep V0 main_arg7 (by decide)).trans (at5_main_arg7 V0)
set_option maxRecDepth 8192 in
set_option maxHeartbeats 4000000 in
/-- What `opsF` computes: the argmin of the distances. -/
theorem at6_main_v97 (V0 : Valuation τ sig (Elt F)) : at6 V0 (no_index (Proc.devRef .tc main_v97)) = nearest (dists (layer3 (layer2 (taps2 (layer1 (V0 (Proc.devRef .tc main_arg0)) (V0 (Proc.devRef .tc main_arg1)) (V0 (Proc.devRef .tc main_arg2))) (V0 (Proc.devRef .tc main_arg3))) (V0 (Proc.devRef .tc main_arg4))) (V0 (Proc.devRef .tc main_arg5)) (V0 (Proc.devRef .tc main_arg6))) (V0 (Proc.devRef .tc main_arg7))) := by
  unfold at6
  simp only [opsF, TRef.binary, TRef.nullary, TRef.unary, TRef.quaternary, TRef.toBuf, TRef.ofBuf, cast_eq]
  after_results_simp
  simp only [at5_main_v96] <;> rfl

/-- The contents after @main are those after the last window. -/
theorem after_ops (V0 : Valuation τ sig (Elt F)) : after ops V0 = at6 V0 := by
  simp only [ops, part0, part1, after_append]
  rfl

/-- The reference's result as a function of its arguments. -/
def result (x0 : (⟨S64x4x2048, .f32⟩ : BufTy).Contents (Elt F)) (x1 : (⟨S512x4x4, .f32⟩ : BufTy).Contents (Elt F)) (x2 : (⟨S512, .f32⟩ : BufTy).Contents (Elt F))
    (x3 : (⟨S512x512x4, .f32⟩ : BufTy).Contents (Elt F)) (x4 : (⟨S512, .f32⟩ : BufTy).Contents (Elt F)) (x5 : (⟨S256x512x3, .f32⟩ : BufTy).Contents (Elt F))
    (x6 : (⟨S256, .f32⟩ : BufTy).Contents (Elt F)) (x7 : (⟨S1024x256, .f32⟩ : BufTy).Contents (Elt F)) : (⟨S64x512, .i32⟩ : BufTy).Contents (Elt F) :=
  nearest (dists (layer3 (layer2 (taps2 (layer1 x0 x1 x2) x3) x4) x5 x6) x7)

set_option maxRecDepth 8192 in
/-- On every device, from any memory with zero counters: every weakly fair execution of @main terminates with the result buffer at
    `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v97).trans ((congrFun (after_ops (launchContents m c)) (Proc.devRef .tc main_v97)).trans (at6_main_v97 (launchContents m c))),
      (h c main_arg0).trans ((congrFun (after_ops (launchContents m c)) (Proc.devRef .tc main_arg0)).trans (at6_main_arg0 (launchContents m c))),
      (h c main_arg1).trans ((congrFun (after_ops (launchContents m c)) (Proc.devRef .tc main_arg1)).trans (at6_main_arg1 (launchContents m c))),
      (h c main_arg2).trans ((congrFun (after_ops (launchContents m c)) (Proc.devRef .tc main_arg2)).trans (at6_main_arg2 (launchContents m c))),
      (h c main_arg3).trans ((congrFun (after_ops (launchContents m c)) (Proc.devRef .tc main_arg3)).trans (at6_main_arg3 (launchContents m c))),
      (h c main_arg4).trans ((congrFun (after_ops (launchContents m c)) (Proc.devRef .tc main_arg4)).trans (at6_main_arg4 (launchContents m c))),
      (h c main_arg5).trans ((congrFun (after_ops (launchContents m c)) (Proc.devRef .tc main_arg5)).trans (at6_main_arg5 (launchContents m c))),
      (h c main_arg6).trans ((congrFun (after_ops (launchContents m c)) (Proc.devRef .tc main_arg6)).trans (at6_main_arg6 (launchContents m c))),
      (h c main_arg7).trans ((congrFun (after_ops (launchContents m c)) (Proc.devRef .tc main_arg7)).trans (at6_main_arg7 (launchContents m c)))⟩)
    (run_seq scopedRefs_eq scopedSems_eq defs main (fun _ => ops) main_eq (fun _ => ops_sub) m ρ fun _ => ops_fresh)

end Cert.ReferenceIdeal.Layers

end
-- ==== Proof.Spec.lean ====
/-
  THE LAYERS AS FUNCTIONS OF ONE SAMPLE (untrusted): what both programs compute, written over extended reals with the sums over the
  channels explicit. A sample is a family of signals, one per channel; a padded signal is read by a natural position.
-/
module

public import Idealize.ShloMosaic.Lib.Pointwise
public import Idealize.ShloMosaic.Lib.Pipeline.Value

@[expose] public section

noncomputable section

namespace Cert.Enc

open Idealize.ShloMosaic Idealize.SL.Sem

/-- A signal with one zero on either side (and zeros beyond), read at a position. -/
def padded {n : ℕ} (f : Fin n → EReal) (p : ℕ) : EReal := if h : 1 ≤ p ∧ p ≤ n then f ⟨p - 1, by omega⟩ else 0

/-- Inside, the padded signal at position `p + 1` is the signal at `p`. -/
theorem padded_succ {n : ℕ} (f : Fin n → EReal) (p : Fin n) : padded f (p.val + 1) = f p := by
  unfold padded; rw [dif_pos ⟨by omega, by omega⟩]; rfl
/-- At position 0 it is 0. -/
theorem padded_zero {n : ℕ} (f : Fin n → EReal) : padded f 0 = 0 := by
  unfold padded; rw [dif_neg (by omega)]
/-- Past the signal it is 0. -/
theorem padded_ge {n : ℕ} (f : Fin n → EReal) (p : ℕ) (h : n < p) : padded f p = 0 := by
  unfold padded; rw [dif_neg (by omega)]
/-- The same at a position known inside. -/
theorem padded_of {n : ℕ} (f : Fin n → EReal) (p : ℕ) (i : Fin n) (h : p = i.val + 1) : padded f p = f i := by
  rw [h, padded_succ]

/-- One output of a four-tap convolution of stride 2 with a bias and a rectifier. -/
def conv4 {ci co n m : ℕ} (w : Fin co → Fin ci → Fin 4 → EReal) (b : Fin co → EReal) (x : Fin ci → Fin n → EReal) (o : Fin co) (l : Fin m) : EReal :=
  max (((((∑ c, w o c 0 * padded (x c) (2 * l.val)) + ∑ c, w o c 1 * padded (x c) (2 * l.val + 1))
    + ∑ c, w o c 2 * padded (x c) (2 * l.val + 2)) + ∑ c, w o c 3 * padded (x c) (2 * l.val + 3)) + b o) 0

/-- One output of a three-tap convolution of stride 1 with a bias. -/
def conv3 {ci co n m : ℕ} (w : Fin co → Fin ci → Fin 3 → EReal) (b : Fin co → EReal) (x : Fin ci → Fin n → EReal) (o : Fin co) (l : Fin m) : EReal :=
  (((∑ c, w o c 0 * padded (x c) l.val) + ∑ c, w o c 1 * padded (x c) (l.val + 1)) + ∑ c, w o c 2 * padded (x c) (l.val + 2)) + b o

/-- A sum over sixteen terms as four sums of four. -/
theorem sum_four_four (f : Fin 16 → EReal) :
    ∑ k, f k = ((∑ c : Fin 4, f ⟨4 * 0 + c.val, by omega⟩ + ∑ c : Fin 4, f ⟨4 * 1 + c.val, by omega⟩) + ∑ c : Fin 4, f ⟨4 * 2 + c.val, by omega⟩)
      + ∑ c : Fin 4, f ⟨4 * 3 + c.val, by omega⟩ := by
  rw [← (finProdFinEquiv (m := 4) (n := 4)).sum_comp, Fintype.sum_prod_type, Fin.sum_univ_four]
  refine congrArg₂ _ (congrArg₂ _ (congrArg₂ _ ?_ ?_) ?_) ?_
  all_goals exact Finset.sum_congr rfl fun c _ => congrArg f (Fin.ext (Nat.add_comm _ _))

/-! ## Concatenations of matrices read at an index -/

variable {α : Type}

/-- Matrices stacked by rows: row `pre + r'` of the stack is row `r'` of the piece that starts at row `pre`. -/
theorem cat0 {M N R : ℕ} (xs : List ((s : Shape) × (s.Idx → α))) (h : Shape.Concatenates (xs.map (·.1)) ⟨2, ![M, N]⟩ (0 : Fin 2))
    (r : Fin M) (p : Fin N) (k : ℕ) (hk : k < xs.length) (x₁ : Shape.Idx ⟨2, ![R, N]⟩ → α) (hxk : xs[k] = ⟨⟨2, ![R, N]⟩, x₁⟩) (pre : ℕ)
    (hpre : (((xs.take k).map (·.1)).map fun s : Shape => if h : s.rank = 2 then s.size ((0 : Fin 2).cast h.symm) else 0).sum = pre)
    (r' : Fin R) (ha : pre + r'.val = r.val) :
    concatenate ⟨2, ![M, N]⟩ (0 : Fin 2) xs h (ix2 r p) = x₁ (ix2 r' p) :=
  concatenate_apply_piece (t := ⟨2, ![M, N]⟩) (0 : Fin 2) xs h (ix2 r p) k hk ⟨2, ![R, N]⟩ x₁ hxk rfl pre hpre (ix2 r' p)
    (by intro b hb; fin_cases b; exacts [absurd rfl hb, rfl]) ha

/-- Matrices set side by side: column `pre + p'` of the whole is column `p'` of the piece that starts at column `pre`. -/
theorem cat1 {M N R : ℕ} (xs : List ((s : Shape) × (s.Idx → α))) (h : Shape.Concatenates (xs.map (·.1)) ⟨2, ![M, N]⟩ (1 : Fin 2))
    (r : Fin M) (p : Fin N) (k : ℕ) (hk : k < xs.length) (x₁ : Shape.Idx ⟨2, ![M, R]⟩ → α) (hxk : xs[k] = ⟨⟨2, ![M, R]⟩, x₁⟩) (pre : ℕ)
    (hpre : (((xs.take k).map (·.1)).map fun s : Shape => if h : s.rank = 2 then s.size ((1 : Fin 2).cast h.symm) else 0).sum = pre)
    (p' : Fin R) (ha : pre + p'.val = p.val) :
    concatenate ⟨2, ![M, N]⟩ (1 : Fin 2) xs h (ix2 r p) = x₁ (ix2 r p') :=
  concatenate_apply_piece (t := ⟨2, ![M, N]⟩) (1 : Fin 2) xs h (ix2 r p) k hk ⟨2, ![M, R]⟩ x₁ hxk rfl pre hpre (ix2 r p')
    (by intro b hb; fin_cases b; exacts [rfl, absurd rfl hb]) ha

end Cert.Enc

end
-- ==== Proof.KTaps.lean ====
/-
  THE KERNEL'S FIRST CONVOLUTION (untrusted): the four shifted copies of each sample, the columns they are regrouped into, and the
  product with the filter — the first layer's value at every even and every odd position.
-/
module

public import proofs.«01_k».proof.Proof.Gen.KernelIdeal.Skeleton
public import proofs.«01_k».proof.Proof.Spec

@[expose] public section

noncomputable section

namespace Cert.KernelIdeal.Layers

open Cert.KernelIdeal Cert.KernelIdeal.Gen Idealize.ShloMosaic Idealize.SL.Sem Cert.Enc

/-- A sample's first row-block: the signal shifted right by one, a zero first. -/
theorem shift0 (x : FVec Ideal S4x2048 .f32) (c : Fin 4) (p : Fin 2048) :
    concatenate S4x2048 1 [⟨S4x1, broadcast S4x1 (Scalar.ofBits (F := Ideal) .f32 0x00000000#32)⟩, ⟨S4x2047, extractStridedSlice S4x2047 ![0, 0] x slices_S4x2048_o0_0_S4x2047⟩]
      concatenates_S4x1_S4x2047_S4x2048_d1 (ix2 c p) = padded (fun q => x (ix2 c q)) p.val := by
  by_cases hp : p.val = 0
  · rw [hp, padded_zero]
    refine (cat1 _ _ c p 0 (by simp) _ rfl 0 rfl (0 : Fin 1) (by simp [hp])).trans ?_
    pointwise
  · refine (cat1 _ _ c p 1 (by simp) _ rfl 1 rfl (⟨p.val - 1, by omega⟩ : Fin 2047) (by simp; omega)).trans ?_
    rw [padded_of _ _ (⟨p.val - 1, by omega⟩ : Fin 2048) (by simp; omega)]
    pointwise

/-- A sample's third row-block: the signal shifted left by one, a zero last. -/
theorem shift2 (x : FVec Ideal S4x2048 .f32) (c : Fin 4) (p : Fin 2048) :
    concatenate S4x2048 1 [⟨S4x2047, extractStridedSlice S4x2047 ![0, 1] x slices_S4x2048_o0_1_S4x2047⟩, ⟨S4x1, broadcast S4x1 (Scalar.ofBits (F := Ideal) .f32 0x00000000#32)⟩]
      concatenates_S4x2047_S4x1_S4x2048_d1 (ix2 c p) = padded (fun q => x (ix2 c q)) (p.val + 2) := by
  by_cases hp : p.val = 2047
  · rw [padded_ge _ _ (by omega)]
    refine (cat1 _ _ c p 1 (by simp) _ rfl 2047 rfl (0 : Fin 1) (by simp [hp])).trans ?_
    pointwise
  · refine (cat1 _ _ c p 0 (by simp) _ rfl 0 rfl (⟨p.val, by omega⟩ : Fin 2047) (by simp)).trans ?_
    rw [padded_of _ _ (⟨p.val + 1, by omega⟩ : Fin 2048) (by simp)]
    refine extractStridedSlice_apply _ _ _ _ _ fun a => ?_
    fin_cases a <;> simp [ix2] <;> omega

/-- A sample's fourth row-block: the signal shifted left by two, two zeros last. -/
theorem shift3 (x : FVec Ideal S4x2048 .f32) (c : Fin 4) (p : Fin 2048) :
    concatenate S4x2048 1 [⟨S4x2046, extractStridedSlice S4x2046 ![0, 2] x slices_S4x2048_o0_2_S4x2046⟩, ⟨S4x1, broadcast S4x1 (Scalar.ofBits (F := Ideal) .f32 0x00000000#32)⟩, ⟨S4x1, broadcast S4x1 (Scalar.ofBits (F := Ideal) .f32 0x00000000#32)⟩]
      concatenates_S4x2046_S4x1_S4x1_S4x2048_d1 (ix2 c p) = padded (fun q => x (ix2 c q)) (p.val + 3) := by
  by_cases hp : p.val = 2047
  · rw [padded_ge _ _ (by omega)]
    refine (cat1 _ _ c p 2 (by simp) _ rfl 2047 rfl (0 : Fin 1) (by simp [hp])).trans ?_
    pointwise
  · by_cases hp' : p.val = 2046
    · rw [padded_ge _ _ (by omega)]
      refine (cat1 _ _ c p 1 (by simp) _ rfl 2046 rfl (0 : Fin 1) (by simp [hp'])).trans ?_
      pointwise
    · refine (cat1 _ _ c p 0 (by simp) _ rfl 0 rfl (⟨p.val, by omega⟩ : Fin 2046) (by simp)).trans ?_
      rw [padded_of _ _ (⟨p.val + 2, by omega⟩ : Fin 2048) (by simp)]
      refine extractStridedSlice_apply _ _ _ _ _ fun a => ?_
      fin_cases a <;> simp [ix2] <;> omega

/-- The four row-blocks of a sample: row `4t + c` at position `p` is channel `c` of the padded signal at position `p + t`. -/
theorem stack_apply (v : FVec Ideal S1x4x2048 .f32) (t c : Fin 4) (p : Fin 2048) :
    k0_pay2 (F := Ideal) v (ix2 (⟨4 * t.val + c.val, by omega⟩ : Fin 16) p) = padded (fun q => v (ix3 0 c q)) (p.val + t.val) := by
  have hs : ∀ q : Fin 2048, shapeCast S4x2048 v shapeCasts_S1x4x2048_S4x2048 (ix2 c q) = v (ix3 0 c q) := fun q => by pointwise
  unfold k0_pay2
  match t with
  | 0 =>
    refine (cat0 _ _ _ p 0 (by simp) _ rfl 0 rfl c (by simp)).trans ((shift0 _ c p).trans ?_)
    simp only [hs]; rfl
  | 1 =>
    refine (cat0 _ _ _ p 1 (by simp) _ rfl 4 rfl c (by simp)).trans ((hs p).trans ?_)
    exact (padded_succ (fun q => v (ix3 0 c q)) p).symm
  | 2 =>
    refine (cat0 _ _ _ p 2 (by simp) _ rfl 8 rfl c (by simp)).trans ((shift2 _ c p).trans ?_)
    simp only [hs]; rfl
  | 3 =>
    refine (cat0 _ _ _ p 3 (by simp) _ rfl 12 rfl c (by simp)).trans ((shift3 _ c p).trans ?_)
    simp only [hs]; rfl

/-- The eight samples' row-blocks, one above another, transposed and split into groups of four positions: group `q`, phase `s`, column
    `16j + k` is row `k` of sample `j`'s blocks at position `4q + s`. -/
theorem groups_apply (X : Fin 8 → FVec Ideal S1x4x2048 .f32) (q : Fin 512) (s : Fin 4) (j : Fin 8) (k : Fin 16) :
    k0_pay6 (F := Ideal) (k0_pay2 (F := Ideal) (X 0)) (k0_pay3 (F := Ideal) (X 1)) (k0_pay4 (F := Ideal) (X 2)) (k0_pay5 (F := Ideal) (X 3)) (X 4) (X 5) (X 6) (X 7)
      (ix3 q s (⟨16 * j.val + k.val, by omega⟩ : Fin 128)) = k0_pay2 (F := Ideal) (X j) (ix2 k (⟨4 * q.val + s.val, by omega⟩ : Fin 2048)) := by
  unfold k0_pay6
  refine (shapeCast_apply _ _ _ (ix2 (⟨4 * q.val + s.val, by omega⟩ : Fin 2048) (⟨16 * j.val + k.val, by omega⟩ : Fin 128)) ?_).trans ?_
  · rw [Shape.rowMajor_val_two, Shape.rowMajor_val_three]; simp [ix2, ix3]; omega
  refine (transpose_apply _ _ _ _ (ix2 (⟨16 * j.val + k.val, by omega⟩ : Fin 128) (⟨4 * q.val + s.val, by omega⟩ : Fin 2048)) ?_).trans ?_
  · intro a; fin_cases a <;> rfl
  match j with
  | 0 => exact cat0 _ _ _ _ 0 (by simp) (k0_pay2 (F := Ideal) (X 0)) rfl 0 rfl k (by simp)
  | 1 => exact cat0 _ _ _ _ 1 (by simp) (k0_pay2 (F := Ideal) (X 1)) rfl 16 rfl k (by simp)
  | 2 => exact cat0 _ _ _ _ 2 (by simp) (k0_pay2 (F := Ideal) (X 2)) rfl 32 rfl k (by simp)
  | 3 => exact cat0 _ _ _ _ 3 (by simp) (k0_pay2 (F := Ideal) (X 3)) rfl 48 rfl k (by simp)
  | 4 => exact cat0 _ _ _ _ 4 (by simp) (k0_pay2 (F := Ideal) (X 4)) rfl 64 rfl k (by simp)
  | 5 => exact cat0 _ _ _ _ 5 (by simp) (k0_pay2 (F := Ideal) (X 5)) rfl 80 rfl k (by simp)
  | 6 => exact cat0 _ _ _ _ 6 (by simp) (k0_pay2 (F := Ideal) (X 6)) rfl 96 rfl k (by simp)
  | 7 => exact cat0 _ _ _ _ 7 (by simp) (k0_pay2 (F := Ideal) (X 7)) rfl 112 rfl k (by simp)

/-- Sixteen column blocks one above another, eight of the even phase's and eight of the odd phase's. -/
def columns (a b : FVec Ideal S512x128 .f32) : FVec Ideal S8192x16 .f32 :=
  concatenate S8192x16 0 [⟨S512x16, extractStridedSlice S512x16 ![0, 0] a slices_S512x128_o0_0_S512x16⟩,
    ⟨S512x16, extractStridedSlice S512x16 ![0, 16] a slices_S512x128_o0_16_S512x16⟩,
    ⟨S512x16, extractStridedSlice S512x16 ![0, 32] a slices_S512x128_o0_32_S512x16⟩,
    ⟨S512x16, extractStridedSlice S512x16 ![0, 48] a slices_S512x128_o0_48_S512x16⟩,
    ⟨S512x16, extractStridedSlice S512x16 ![0, 64] a slices_S512x128_o0_64_S512x16⟩,
    ⟨S512x16, extractStridedSlice S512x16 ![0, 80] a slices_S512x128_o0_80_S512x16⟩,
    ⟨S512x16, extractStridedSlice S512x16 ![0, 96] a slices_S512x128_o0_96_S512x16⟩,
    ⟨S512x16, extractStridedSlice S512x16 ![0, 112] a slices_S512x128_o0_112_S512x16⟩,
    ⟨S512x16, extractStridedSlice S512x16 ![0, 0] b slices_S512x128_o0_0_S512x16⟩,
    ⟨S512x16, extractStridedSlice S512x16 ![0, 16] b slices_S512x128_o0_16_S512x16⟩,
    ⟨S512x16, extractStridedSlice S512x16 ![0, 32] b slices_S512x128_o0_32_S512x16⟩,
    ⟨S512x16, extractStridedSlice S512x16 ![0, 48] b slices_S512x128_o0_48_S512x16⟩,
    ⟨S512x16, extractStridedSlice S512x16 ![0, 64] b slices_S512x128_o0_64_S512x16⟩,
    ⟨S512x16, extractStridedSlice S512x16 ![0, 80] b slices_S512x128_o0_80_S512x16⟩,
    ⟨S512x16, extractStridedSlice S512x16 ![0, 96] b slices_S512x128_o0_96_S512x16⟩,
    ⟨S512x16, extractStridedSlice S512x16 ![0, 112] b slices_S512x128_o0_112_S512x16⟩]
    concatenates_S512x16_S512x16_S512x16_S512x16_S512x16_S512x16_S512x16_S512x16_S512x16_S512x16_S512x16_S512x16_S512x16_S512x16_S512x16_S512x16_S8192x16_d0

/-- A column block read at an index. -/
theorem column_apply (a : FVec Ideal S512x128 .f32) (off : ℕ) (h : S512x128.Slices ![0, off] S512x16) (q : Fin 512) (k : Fin 16) (hk : off + k.val < 128) :
    extractStridedSlice S512x16 ![0, off] a h (ix2 q k) = a (ix2 q ⟨off + k.val, hk⟩) := by
  refine extractStridedSlice_apply _ _ _ _ _ fun x => ?_
  fin_cases x <;> simp [ix2]

set_option maxHeartbeats 1000000 in
/-- The even phase's rows. -/
theorem columns_even (a b : FVec Ideal S512x128 .f32) (j : Fin 8) (q : Fin 512) (k : Fin 16) :
    columns a b (ix2 (⟨512 * j.val + q.val, by omega⟩ : Fin 8192) k) = a (ix2 q (⟨16 * j.val + k.val, by omega⟩ : Fin 128)) := by
  unfold columns
  match j with
  | 0 => exact (cat0 _ _ _ k 0 (by simp) (extractStridedSlice S512x16 ![0, 0] a slices_S512x128_o0_0_S512x16) rfl 0 (by simp) q (by simp)).trans (column_apply a 0 _ q k (by omega))
  | 1 => exact (cat0 _ _ _ k 1 (by simp) (extractStridedSlice S512x16 ![0, 16] a slices_S512x128_o0_16_S512x16) rfl 512 (by simp) q (by simp)).trans (column_apply a 16 _ q k (by omega))
  | 2 => exact (cat0 _ _ _ k 2 (by simp) (extractStridedSlice S512x16 ![0, 32] a slices_S512x128_o0_32_S512x16) rfl 1024 (by simp) q (by simp)).trans (column_apply a 32 _ q k (by omega))
  | 3 => exact (cat0 _ _ _ k 3 (by simp) (extractStridedSlice S512x16 ![0, 48] a slices_S512x128_o0_48_S512x16) rfl 1536 (by simp) q (by simp)).trans (column_apply a 48 _ q k (by omega))
  | 4 => exact (cat0 _ _ _ k 4 (by simp) (extractStridedSlice S512x16 ![0, 64] a slices_S512x128_o0_64_S512x16) rfl 2048 (by simp) q (by simp)).trans (column_apply a 64 _ q k (by omega))
  | 5 => exact (cat0 _ _ _ k 5 (by simp) (extractStridedSlice S512x16 ![0, 80] a slices_S512x128_o0_80_S512x16) rfl 2560 (by simp) q (by simp)).trans (column_apply a 80 _ q k (by omega))
  | 6 => exact (cat0 _ _ _ k 6 (by simp) (extractStridedSlice S512x16 ![0, 96] a slices_S512x128_o0_96_S512x16) rfl 3072 (by simp) q (by simp)).trans (column_apply a 96 _ q k (by omega))
  | 7 => exact (cat0 _ _ _ k 7 (by simp) (extractStridedSlice S512x16 ![0, 112] a slices_S512x128_o0_112_S512x16) rfl 3584 (by simp) q (by simp)).trans (column_apply a 112 _ q k (by omega))

set_option maxHeartbeats 1000000 in
/-- The odd phase's rows. -/
theorem columns_odd (a b : FVec Ideal S512x128 .f32) (j : Fin 8) (q : Fin 512) (k : Fin 16) :
    columns a b (ix2 (⟨4096 + (512 * j.val + q.val), by omega⟩ : Fin 8192) k) = b (ix2 q (⟨16 * j.val + k.val, by omega⟩ : Fin 128)) := by
  unfold columns
  match j with
  | 0 => exact (cat0 _ _ _ k 8 (by simp) (extractStridedSlice S512x16 ![0, 0] b slices_S512x128_o0_0_S512x16) rfl 4096 (by simp) q (by simp)).trans (column_apply b 0 _ q k (by omega))
  | 1 => exact (cat0 _ _ _ k 9 (by simp) (extractStridedSlice S512x16 ![0, 16] b slices_S512x128_o0_16_S512x16) rfl 4608 (by simp) q (by simp; omega)).trans (column_apply b 16 _ q k (by omega))
  | 2 => exact (cat0 _ _ _ k 10 (by simp) (extractStridedSlice S512x16 ![0, 32] b slices_S512x128_o0_32_S512x16) rfl 5120 (by simp) q (by simp; omega)).trans (column_apply b 32 _ q k (by omega))
  | 3 => exact (cat0 _ _ _ k 11 (by simp) (extractStridedSlice S512x16 ![0, 48] b slices_S512x128_o0_48_S512x16) rfl 5632 (by simp) q (by simp; omega)).trans (column_apply b 48 _ q k (by omega))
  | 4 => exact (cat0 _ _ _ k 12 (by simp) (extractStridedSlice S512x16 ![0, 64] b slices_S512x128_o0_64_S512x16) rfl 6144 (by simp) q (by simp; omega)).trans (column_apply b 64 _ q k (by omega))
  | 5 => exact (cat0 _ _ _ k 13 (by simp) (extractStridedSlice S512x16 ![0, 80] b slices_S512x128_o0_80_S512x16) rfl 6656 (by simp) q (by simp; omega)).trans (column_apply b 80 _ q k (by omega))
  | 6 => exact (cat0 _ _ _ k 14 (by simp) (extractStridedSlice S512x16 ![0, 96] b slices_S512x128_o0_96_S512x16) rfl 7168 (by simp) q (by simp; omega)).trans (column_apply b 96 _ q k (by omega))
  | 7 => exact (cat0 _ _ _ k 15 (by simp) (extractStridedSlice S512x16 ![0, 112] b slices_S512x128_o0_112_S512x16) rfl 7680 (by simp) q (by simp; omega)).trans (column_apply b 112 _ q k (by omega))

/-- The first layer's product, bias and rectifier at a row. -/
theorem product1 (a b : FVec Ideal S512x128 .f32) (w : FVec Ideal S16x512 .f32) (v : FVec Ideal S1x512 .f32) (r : Fin 8192) (o : Fin 512) :
    k0_pay9 (F := Ideal) a b w v (ix2 r o) = max (∑ k : Fin 16, columns a b (ix2 r k) * w (ix2 k o) + v (ix2 0 o)) 0 := by
  have e : k0_pay9 (F := Ideal) a b w v = maximumf (addf (matmul dot_S8192x16_S16x512_S8192x512_1_0_0_1_n_n none (columns a b)
      (shapeCast S16x512 w shapeCasts_S16x512_S16x512) (constant S8192x512 .f32 0x00000000#32))
      (broadcastTo S8192x512 (shapeCast S1x512 v shapeCasts_S1x512_S1x512) broadcasts_S1x512_S8192x512))
      (broadcast S8192x512 (Scalar.ofBits .f32 0x00000000#32)) := rfl
  rw [e]
  generalize columns a b = A
  pointwise

/-- The eight samples' first layer: at the even positions. -/
theorem layer1_even (X : Fin 8 → FVec Ideal S1x4x2048 .f32) (w : FVec Ideal S16x512 .f32) (v : FVec Ideal S1x512 .f32)
    (W : Fin 512 → Fin 4 → Fin 4 → EReal) (hW : ∀ (t c : Fin 4) (o : Fin 512), w (ix2 (⟨4 * t.val + c.val, by omega⟩ : Fin 16) o) = W o c t)
    (j : Fin 8) (q o : Fin 512) :
    k0_pay9 (F := Ideal)
      (k0_pay7 (F := Ideal) (k0_pay2 (F := Ideal) (X 0)) (k0_pay3 (F := Ideal) (X 1)) (k0_pay4 (F := Ideal) (X 2)) (k0_pay5 (F := Ideal) (X 3)) (X 4) (X 5) (X 6) (X 7))
      (k0_pay8 (F := Ideal) (k0_pay2 (F := Ideal) (X 0)) (k0_pay3 (F := Ideal) (X 1)) (k0_pay4 (F := Ideal) (X 2)) (k0_pay5 (F := Ideal) (X 3)) (X 4) (X 5) (X 6) (X 7))
      w v (ix2 (⟨512 * j.val + q.val, by omega⟩ : Fin 8192) o)
      = conv4 W (fun o => v (ix2 0 o)) (fun c p => X j (ix3 0 c p)) o (⟨2 * q.val, by omega⟩ : Fin 1024) := by
  have hk : ∀ t c : Fin 4, columns
      (k0_pay7 (F := Ideal) (k0_pay2 (F := Ideal) (X 0)) (k0_pay3 (F := Ideal) (X 1)) (k0_pay4 (F := Ideal) (X 2)) (k0_pay5 (F := Ideal) (X 3)) (X 4) (X 5) (X 6) (X 7))
      (k0_pay8 (F := Ideal) (k0_pay2 (F := Ideal) (X 0)) (k0_pay3 (F := Ideal) (X 1)) (k0_pay4 (F := Ideal) (X 2)) (k0_pay5 (F := Ideal) (X 3)) (X 4) (X 5) (X 6) (X 7))
      (ix2 (⟨512 * j.val + q.val, by omega⟩ : Fin 8192) (⟨4 * t.val + c.val, by omega⟩ : Fin 16))
      = padded (fun p => X j (ix3 0 c p)) (2 * (2 * q.val) + t.val) := by
    intro t c
    rw [columns_even]
    unfold k0_pay7
    refine (shapeCast_apply _ _ _ (ix3 q (0 : Fin 1) (⟨16 * j.val + (4 * t.val + c.val), by omega⟩ : Fin 128)) ?_).trans ?_
    · rw [Shape.rowMajor_val_two, Shape.rowMajor_val_three]; simp [ix2, ix3]
    refine (extractStridedSlice_apply _ _ _ _ (ix3 q (0 : Fin 4) (⟨16 * j.val + (4 * t.val + c.val), by omega⟩ : Fin 128)) ?_).trans ?_
    · intro a; fin_cases a <;> simp [ix3]
    refine (groups_apply X q 0 j ⟨4 * t.val + c.val, by omega⟩).trans ((stack_apply (X j) t c _).trans ?_)
    congr 1; simp; omega
  rw [product1, sum_four_four]
  unfold conv4
  refine congrArg₂ max (congrArg₂ _ (congrArg₂ _ (congrArg₂ _ (congrArg₂ _ ?_ ?_) ?_) ?_) rfl) rfl
  · exact Finset.sum_congr rfl fun c _ => by rw [mul_comm]; exact congrArg₂ _ (hW 0 c o) (hk 0 c)
  · exact Finset.sum_congr rfl fun c _ => by rw [mul_comm]; exact congrArg₂ _ (hW 1 c o) (hk 1 c)
  · exact Finset.sum_congr rfl fun c _ => by rw [mul_comm]; exact congrArg₂ _ (hW 2 c o) (hk 2 c)
  · exact Finset.sum_congr rfl fun c _ => by rw [mul_comm]; exact congrArg₂ _ (hW 3 c o) (hk 3 c)

/-- The eight samples' first layer at the odd positions. -/
theorem layer1_odd (X : Fin 8 → FVec Ideal S1x4x2048 .f32) (w : FVec Ideal S16x512 .f32) (v : FVec Ideal S1x512 .f32)
    (W : Fin 512 → Fin 4 → Fin 4 → EReal) (hW : ∀ (t c : Fin 4) (o : Fin 512), w (ix2 (⟨4 * t.val + c.val, by omega⟩ : Fin 16) o) = W o c t)
    (j : Fin 8) (q o : Fin 512) :
    k0_pay9 (F := Ideal)
      (k0_pay7 (F := Ideal) (k0_pay2 (F := Ideal) (X 0)) (k0_pay3 (F := Ideal) (X 1)) (k0_pay4 (F := Ideal) (X 2)) (k0_pay5 (F := Ideal) (X 3)) (X 4) (X 5) (X 6) (X 7))
      (k0_pay8 (F := Ideal) (k0_pay2 (F := Ideal) (X 0)) (k0_pay3 (F := Ideal) (X 1)) (k0_pay4 (F := Ideal) (X 2)) (k0_pay5 (F := Ideal) (X 3)) (X 4) (X 5) (X 6) (X 7))
      w v (ix2 (⟨4096 + (512 * j.val + q.val), by omega⟩ : Fin 8192) o)
      = conv4 W (fun o => v (ix2 0 o)) (fun c p => X j (ix3 0 c p)) o (⟨2 * q.val + 1, by omega⟩ : Fin 1024) := by
  have hk : ∀ t c : Fin 4, columns
      (k0_pay7 (F := Ideal) (k0_pay2 (F := Ideal) (X 0)) (k0_pay3 (F := Ideal) (X 1)) (k0_pay4 (F := Ideal) (X 2)) (k0_pay5 (F := Ideal) (X 3)) (X 4) (X 5) (X 6) (X 7))
      (k0_pay8 (F := Ideal) (k0_pay2 (F := Ideal) (X 0)) (k0_pay3 (F := Ideal) (X 1)) (k0_pay4 (F := Ideal) (X 2)) (k0_pay5 (F := Ideal) (X 3)) (X 4) (X 5) (X 6) (X 7))
      (ix2 (⟨4096 + (512 * j.val + q.val), by omega⟩ : Fin 8192) (⟨4 * t.val + c.val, by omega⟩ : Fin 16))
      = padded (fun p => X j (ix3 0 c p)) (2 * (2 * q.val + 1) + t.val) := by
    intro t c
    rw [columns_odd]
    unfold k0_pay8
    refine (shapeCast_apply _ _ _ (ix3 q (0 : Fin 1) (⟨16 * j.val + (4 * t.val + c.val), by omega⟩ : Fin 128)) ?_).trans ?_
    · rw [Shape.rowMajor_val_two, Shape.rowMajor_val_three]; simp [ix2, ix3]
    refine (extractStridedSlice_apply _ _ _ _ (ix3 q (2 : Fin 4) (⟨16 * j.val + (4 * t.val + c.val), by omega⟩ : Fin 128)) ?_).trans ?_
    · intro a; fin_cases a <;> simp [ix3]
    refine (groups_apply X q 2 j ⟨4 * t.val + c.val, by omega⟩).trans ((stack_apply (X j) t c _).trans ?_)
    congr 1; simp; omega
  rw [product1, sum_four_four]
  unfold conv4
  refine congrArg₂ max (congrArg₂ _ (congrArg₂ _ (congrArg₂ _ (congrArg₂ _ ?_ ?_) ?_) ?_) rfl) rfl
  · exact Finset.sum_congr rfl fun c _ => by rw [mul_comm]; exact congrArg₂ _ (hW 0 c o) (hk 0 c)
  · exact Finset.sum_congr rfl fun c _ => by rw [mul_comm]; exact congrArg₂ _ (hW 1 c o) (hk 1 c)
  · exact Finset.sum_congr rfl fun c _ => by rw [mul_comm]; exact congrArg₂ _ (hW 2 c o) (hk 2 c)
  · exact Finset.sum_congr rfl fun c _ => by rw [mul_comm]; exact congrArg₂ _ (hW 3 c o) (hk 3 c)

end Cert.KernelIdeal.Layers

end
-- ==== Proof.KConv.lean ====
/-
  THE KERNEL'S SECOND AND THIRD CONVOLUTIONS AND ITS DISTANCES (untrusted): rows shifted within each sample, the products with the
  filters' slices, and the distance of every row to every codebook entry.
-/
module

public import proofs.«01_k».proof.Proof.KTaps

@[expose] public section

noncomputable section

namespace Cert.KernelIdeal.Layers

open Cert.KernelIdeal Cert.KernelIdeal.Gen Idealize.ShloMosaic Idealize.SL.Sem Cert.Enc

/-- Row `q` of sample `j` among the 4096 rows of a block. -/
def row (j : Fin 8) (q : Fin 512) : Fin 4096 := ⟨512 * j.val + q.val, by omega⟩

/-- Every sample's rows moved down by one, a zero row first. -/
def shiftR (h : FVec Ideal S4096x512 .f32) : FVec Ideal S4096x512 .f32 :=
  concatenate S4096x512 0 [⟨S1x512, k0_pay12 (F := Ideal)⟩, ⟨S511x512, extractStridedSlice S511x512 ![0, 0] h slices_S4096x512_o0_0_S511x512⟩,
    ⟨S1x512, k0_pay12 (F := Ideal)⟩, ⟨S511x512, extractStridedSlice S511x512 ![512, 0] h slices_S4096x512_o512_0_S511x512⟩,
    ⟨S1x512, k0_pay12 (F := Ideal)⟩, ⟨S511x512, extractStridedSlice S511x512 ![1024, 0] h slices_S4096x512_o1024_0_S511x512⟩,
    ⟨S1x512, k0_pay12 (F := Ideal)⟩, ⟨S511x512, extractStridedSlice S511x512 ![1536, 0] h slices_S4096x512_o1536_0_S511x512⟩,
    ⟨S1x512, k0_pay12 (F := Ideal)⟩, ⟨S511x512, extractStridedSlice S511x512 ![2048, 0] h slices_S4096x512_o2048_0_S511x512⟩,
    ⟨S1x512, k0_pay12 (F := Ideal)⟩, ⟨S511x512, extractStridedSlice S511x512 ![2560, 0] h slices_S4096x512_o2560_0_S511x512⟩,
    ⟨S1x512, k0_pay12 (F := Ideal)⟩, ⟨S511x512, extractStridedSlice S511x512 ![3072, 0] h slices_S4096x512_o3072_0_S511x512⟩,
    ⟨S1x512, k0_pay12 (F := Ideal)⟩, ⟨S511x512, extractStridedSlice S511x512 ![3584, 0] h slices_S4096x512_o3584_0_S511x512⟩]
    concatenates_S1x512_S511x512_S1x512_S511x512_S1x512_S511x512_S1x512_S511x512_S1x512_S511x512_S1x512_S511x512_S1x512_S511x512_S1x512_S511x512_S4096x512_d0

/-- Every sample's rows moved up by one, a zero row last. -/
def shiftL (h : FVec Ideal S4096x512 .f32) : FVec Ideal S4096x512 .f32 :=
  concatenate S4096x512 0 [⟨S511x512, extractStridedSlice S511x512 ![1, 0] h slices_S4096x512_o1_0_S511x512⟩, ⟨S1x512, k0_pay12 (F := Ideal)⟩,
    ⟨S511x512, extractStridedSlice S511x512 ![513, 0] h slices_S4096x512_o513_0_S511x512⟩, ⟨S1x512, k0_pay12 (F := Ideal)⟩,
    ⟨S511x512, extractStridedSlice S511x512 ![1025, 0] h slices_S4096x512_o1025_0_S511x512⟩, ⟨S1x512, k0_pay12 (F := Ideal)⟩,
    ⟨S511x512, extractStridedSlice S511x512 ![1537, 0] h slices_S4096x512_o1537_0_S511x512⟩, ⟨S1x512, k0_pay12 (F := Ideal)⟩,
    ⟨S511x512, extractStridedSlice S511x512 ![2049, 0] h slices_S4096x512_o2049_0_S511x512⟩, ⟨S1x512, k0_pay12 (F := Ideal)⟩,
    ⟨S511x512, extractStridedSlice S511x512 ![2561, 0] h slices_S4096x512_o2561_0_S511x512⟩, ⟨S1x512, k0_pay12 (F := Ideal)⟩,
    ⟨S511x512, extractStridedSlice S511x512 ![3073, 0] h slices_S4096x512_o3073_0_S511x512⟩, ⟨S1x512, k0_pay12 (F := Ideal)⟩,
    ⟨S511x512, extractStridedSlice S511x512 ![3585, 0] h slices_S4096x512_o3585_0_S511x512⟩, ⟨S1x512, k0_pay12 (F := Ideal)⟩]
    concatenates_S511x512_S1x512_S511x512_S1x512_S511x512_S1x512_S511x512_S1x512_S511x512_S1x512_S511x512_S1x512_S511x512_S1x512_S511x512_S1x512_S4096x512_d0

/-- The zero row. -/
theorem zeroRow_apply (i : S1x512.Idx) : k0_pay12 (F := Ideal) i = 0 := by
  unfold k0_pay12; pointwise

/-- 511 rows from a given one on, read at an index. -/
theorem rows_apply (h : FVec Ideal S4096x512 .f32) (off : ℕ) (hs : S4096x512.Slices ![off, 0] S511x512) (q : Fin 511) (o : Fin 512) (r : Fin 4096)
    (hr : r.val = off + q.val) : extractStridedSlice S511x512 ![off, 0] h hs (ix2 q o) = h (ix2 r o) := by
  refine extractStridedSlice_apply _ _ _ _ _ fun x => ?_
  fin_cases x <;> simp [ix2, hr]

set_option maxHeartbeats 2000000 in
/-- The first row of each sample moved down is zero. -/
theorem shiftR_first (h : FVec Ideal S4096x512 .f32) (j : Fin 8) (o : Fin 512) : shiftR h (ix2 (row j 0) o) = 0 := by
  refine Eq.trans ?_ (zeroRow_apply (ix2 0 o))
  unfold shiftR row
  match j with
  | 0 => exact cat0 _ _ _ o 0 (by simp) (k0_pay12 (F := Ideal)) rfl 0 (by simp) (0 : Fin 1) (by simp)
  | 1 => exact cat0 _ _ _ o 2 (by simp) (k0_pay12 (F := Ideal)) rfl 512 (by simp) (0 : Fin 1) (by simp)
  | 2 => exact cat0 _ _ _ o 4 (by simp) (k0_pay12 (F := Ideal)) rfl 1024 (by simp) (0 : Fin 1) (by simp)
  | 3 => exact cat0 _ _ _ o 6 (by simp) (k0_pay12 (F := Ideal)) rfl 1536 (by simp) (0 : Fin 1) (by simp)
  | 4 => exact cat0 _ _ _ o 8 (by simp) (k0_pay12 (F := Ideal)) rfl 2048 (by simp) (0 : Fin 1) (by simp)
  | 5 => exact cat0 _ _ _ o 10 (by simp) (k0_pay12 (F := Ideal)) rfl 2560 (by simp) (0 : Fin 1) (by simp)
  | 6 => exact cat0 _ _ _ o 12 (by simp) (k0_pay12 (F := Ideal)) rfl 3072 (by simp) (0 : Fin 1) (by simp)
  | 7 => exact cat0 _ _ _ o 14 (by simp) (k0_pay12 (F := Ideal)) rfl 3584 (by simp) (0 : Fin 1) (by simp)

set_option maxHeartbeats 2000000 in
/-- The later rows of each sample moved down. -/
theorem shiftR_later (h : FVec Ideal S4096x512 .f32) (j : Fin 8) (q : Fin 511) (o : Fin 512) :
    shiftR h (ix2 (row j ⟨q.val + 1, by omega⟩) o) = h (ix2 (row j ⟨q.val, by omega⟩) o) := by
  unfold shiftR row
  match j with
  | 0 => exact (cat0 _ _ _ o 1 (by simp) (extractStridedSlice S511x512 ![0, 0] h slices_S4096x512_o0_0_S511x512) rfl 1 (by simp) q (by simp; omega)).trans (rows_apply h 0 _ q o _ (by simp))
  | 1 => exact (cat0 _ _ _ o 3 (by simp) (extractStridedSlice S511x512 ![512, 0] h slices_S4096x512_o512_0_S511x512) rfl 513 (by simp) q (by simp; omega)).trans (rows_apply h 512 _ q o _ (by simp))
  | 2 => exact (cat0 _ _ _ o 5 (by simp) (extractStridedSlice S511x512 ![1024, 0] h slices_S4096x512_o1024_0_S511x512) rfl 1025 (by simp) q (by simp; omega)).trans (rows_apply h 1024 _ q o _ (by simp))
  | 3 => exact (cat0 _ _ _ o 7 (by simp) (extractStridedSlice S511x512 ![1536, 0] h slices_S4096x512_o1536_0_S511x512) rfl 1537 (by simp) q (by simp; omega)).trans (rows_apply h 1536 _ q o _ (by simp))
  | 4 => exact (cat0 _ _ _ o 9 (by simp) (extractStridedSlice S511x512 ![2048, 0] h slices_S4096x512_o2048_0_S511x512) rfl 2049 (by simp) q (by simp; omega)).trans (rows_apply h 2048 _ q o _ (by simp))
  | 5 => exact (cat0 _ _ _ o 11 (by simp) (extractStridedSlice S511x512 ![2560, 0] h slices_S4096x512_o2560_0_S511x512) rfl 2561 (by simp) q (by simp; omega)).trans (rows_apply h 2560 _ q o _ (by simp))
  | 6 => exact (cat0 _ _ _ o 13 (by simp) (extractStridedSlice S511x512 ![3072, 0] h slices_S4096x512_o3072_0_S511x512) rfl 3073 (by simp) q (by simp; omega)).trans (rows_apply h 3072 _ q o _ (by simp))
  | 7 => exact (cat0 _ _ _ o 15 (by simp) (extractStridedSlice S511x512 ![3584, 0] h slices_S4096x512_o3584_0_S511x512) rfl 3585 (by simp) q (by simp; omega)).trans (rows_apply h 3584 _ q o _ (by simp))

set_option maxHeartbeats 2000000 in
/-- The last row of each sample moved up is zero. -/
theorem shiftL_last (h : FVec Ideal S4096x512 .f32) (j : Fin 8) (o : Fin 512) : shiftL h (ix2 (row j 511) o) = 0 := by
  refine Eq.trans ?_ (zeroRow_apply (ix2 0 o))
  unfold shiftL row
  match j with
  | 0 => exact cat0 _ _ _ o 1 (by simp) (k0_pay12 (F := Ideal)) rfl 511 (by simp) (0 : Fin 1) (by simp)
  | 1 => exact cat0 _ _ _ o 3 (by simp) (k0_pay12 (F := Ideal)) rfl 1023 (by simp) (0 : Fin 1) (by simp)
  | 2 => exact cat0 _ _ _ o 5 (by simp) (k0_pay12 (F := Ideal)) rfl 1535 (by simp) (0 : Fin 1) (by simp)
  | 3 => exact cat0 _ _ _ o 7 (by simp) (k0_pay12 (F := Ideal)) rfl 2047 (by simp) (0 : Fin 1) (by simp)
  | 4 => exact cat0 _ _ _ o 9 (by simp) (k0_pay12 (F := Ideal)) rfl 2559 (by simp) (0 : Fin 1) (by simp)
  | 5 => exact cat0 _ _ _ o 11 (by simp) (k0_pay12 (F := Ideal)) rfl 3071 (by simp) (0 : Fin 1) (by simp)
  | 6 => exact cat0 _ _ _ o 13 (by simp) (k0_pay12 (F := Ideal)) rfl 3583 (by simp) (0 : Fin 1) (by simp)
  | 7 => exact cat0 _ _ _ o 15 (by simp) (k0_pay12 (F := Ideal)) rfl 4095 (by simp) (0 : Fin 1) (by simp)

set_option maxHeartbeats 2000000 in
/-- The earlier rows of each sample moved up. -/
theorem shiftL_earlier (h : FVec Ideal S4096x512 .f32) (j : Fin 8) (q : Fin 511) (o : Fin 512) :
    shiftL h (ix2 (row j ⟨q.val, by omega⟩) o) = h (ix2 (row j ⟨q.val + 1, by omega⟩) o) := by
  unfold shiftL row
  match j with
  | 0 => exact (cat0 _ _ _ o 0 (by simp) (extractStridedSlice S511x512 ![1, 0] h slices_S4096x512_o1_0_S511x512) rfl 0 (by simp) q (by simp)).trans (rows_apply h 1 _ q o _ (by simp; omega))
  | 1 => exact (cat0 _ _ _ o 2 (by simp) (extractStridedSlice S511x512 ![513, 0] h slices_S4096x512_o513_0_S511x512) rfl 512 (by simp) q (by simp)).trans (rows_apply h 513 _ q o _ (by simp; omega))
  | 2 => exact (cat0 _ _ _ o 4 (by simp) (extractStridedSlice S511x512 ![1025, 0] h slices_S4096x512_o1025_0_S511x512) rfl 1024 (by simp) q (by simp)).trans (rows_apply h 1025 _ q o _ (by simp; omega))
  | 3 => exact (cat0 _ _ _ o 6 (by simp) (extractStridedSlice S511x512 ![1537, 0] h slices_S4096x512_o1537_0_S511x512) rfl 1536 (by simp) q (by simp)).trans (rows_apply h 1537 _ q o _ (by simp; omega))
  | 4 => exact (cat0 _ _ _ o 8 (by simp) (extractStridedSlice S511x512 ![2049, 0] h slices_S4096x512_o2049_0_S511x512) rfl 2048 (by simp) q (by simp)).trans (rows_apply h 2049 _ q o _ (by simp; omega))
  | 5 => exact (cat0 _ _ _ o 10 (by simp) (extractStridedSlice S511x512 ![2561, 0] h slices_S4096x512_o2561_0_S511x512) rfl 2560 (by simp) q (by simp)).trans (rows_apply h 2561 _ q o _ (by simp; omega))
  | 6 => exact (cat0 _ _ _ o 12 (by simp) (extractStridedSlice S511x512 ![3073, 0] h slices_S4096x512_o3073_0_S511x512) rfl 3072 (by simp) q (by simp)).trans (rows_apply h 3073 _ q o _ (by simp; omega))
  | 7 => exact (cat0 _ _ _ o 14 (by simp) (extractStridedSlice S511x512 ![3585, 0] h slices_S4096x512_o3585_0_S511x512) rfl 3584 (by simp) q (by simp)).trans (rows_apply h 3585 _ q o _ (by simp; omega))

/-- Rows moved down are the padded rows at the same position. -/
theorem shiftR_apply (h : FVec Ideal S4096x512 .f32) (j : Fin 8) (q : Fin 512) (o : Fin 512) :
    shiftR h (ix2 (row j q) o) = padded (fun p => h (ix2 (row j p) o)) q.val := by
  by_cases hq : q.val = 0
  · rw [hq, padded_zero, show q = 0 from Fin.ext hq]; exact shiftR_first h j o
  · rw [padded_of _ _ (⟨q.val - 1, by omega⟩ : Fin 512) (by simp; omega)]
    refine Eq.trans ?_ (shiftR_later h j ⟨q.val - 1, by omega⟩ o)
    exact congrArg (fun r => shiftR h (ix2 (row j r) o)) (Fin.ext (by simp; omega))

/-- Rows moved up are the padded rows two positions on. -/
theorem shiftL_apply (h : FVec Ideal S4096x512 .f32) (j : Fin 8) (q : Fin 512) (o : Fin 512) :
    shiftL h (ix2 (row j q) o) = padded (fun p => h (ix2 (row j p) o)) (q.val + 2) := by
  by_cases hq : q.val = 511
  · rw [padded_ge _ _ (by omega), show q = 511 from Fin.ext hq]; exact shiftL_last h j o
  · rw [padded_of _ _ (⟨q.val + 1, by omega⟩ : Fin 512) (by simp)]
    exact shiftL_earlier h j ⟨q.val, by omega⟩ o

/-- A padded signal of even length read at its even positions is its odd samples, moved down. -/
theorem padded_even (g : Fin 1024 → EReal) (q : Fin 512) :
    padded (fun p : Fin 512 => g (⟨2 * p.val + 1, by omega⟩ : Fin 1024)) q.val = padded g (2 * q.val) := by
  by_cases hq : q.val = 0
  · rw [hq, padded_zero, padded_zero]
  · rw [padded_of _ _ (⟨q.val - 1, by omega⟩ : Fin 512) (by simp; omega), padded_of g _ (⟨2 * (q.val - 1) + 1, by omega⟩ : Fin 1024) (by simp; omega)]

/-- Read at the odd positions three on, it is its even samples, moved up. -/
theorem padded_odd (g : Fin 1024 → EReal) (q : Fin 512) :
    padded (fun p : Fin 512 => g (⟨2 * p.val, by omega⟩ : Fin 1024)) (q.val + 2) = padded g (2 * q.val + 3) := by
  by_cases hq : q.val = 511
  · rw [padded_ge _ _ (by omega), padded_ge _ _ (by omega)]
  · rw [padded_of _ _ (⟨q.val + 1, by omega⟩ : Fin 512) (by simp), padded_of g _ (⟨2 * (q.val + 1), by omega⟩ : Fin 1024) (by simp; omega)]

/-- A product with 512 rows of the second filter, at an index. -/
theorem product2 (a : FVec Ideal S4096x512 .f32) (w : FVec Ideal S2048x512 .f32) (off : ℕ) (hs : S2048x512.Slices ![off, 0] S512x512) (r : Fin 4096) (o : Fin 512)
    (f : Fin 512 → EReal) (hf : ∀ c : Fin 512, ∀ k : Fin 2048, k.val = off + c.val → w (ix2 k o) = f c) (ho : off + 512 ≤ 2048) :
    matmul dot_S4096x512_S512x512_S4096x512_1_0_0_1_n_n none a (extractStridedSlice S512x512 ![off, 0] w hs) (constant S4096x512 .f32 0x00000000#32) (ix2 r o)
      = ∑ c : Fin 512, f c * a (ix2 r c) := by
  have e : ∀ c : Fin 512, extractStridedSlice S512x512 ![off, 0] w hs (ix2 c o) = f c := fun c =>
    (extractStridedSlice_apply _ _ _ _ (ix2 (⟨off + c.val, by omega⟩ : Fin 2048) o) fun x => by fin_cases x <;> simp [ix2]).trans (hf c _ rfl)
  generalize extractStridedSlice S512x512 ![off, 0] w hs = B at e
  refine Eq.trans (b := ∑ c : Fin 512, a (ix2 r c) * B (ix2 c o)) (by pointwise) ?_
  exact Finset.sum_congr rfl fun c _ => by rw [e, mul_comm]

/-- A product with 512 rows of the third filter, at an index. -/
theorem product3 (a : FVec Ideal S4096x512 .f32) (w : FVec Ideal S1536x256 .f32) (off : ℕ) (hs : S1536x256.Slices ![off, 0] S512x256) (r : Fin 4096) (o : Fin 256)
    (f : Fin 512 → EReal) (hf : ∀ c : Fin 512, ∀ k : Fin 1536, k.val = off + c.val → w (ix2 k o) = f c) (ho : off + 512 ≤ 1536) :
    matmul dot_S4096x512_S512x256_S4096x256_1_0_0_1_n_n none a (extractStridedSlice S512x256 ![off, 0] w hs) (constant S4096x256 .f32 0x00000000#32) (ix2 r o)
      = ∑ c : Fin 512, f c * a (ix2 r c) := by
  have e : ∀ c : Fin 512, extractStridedSlice S512x256 ![off, 0] w hs (ix2 c o) = f c := fun c =>
    (extractStridedSlice_apply _ _ _ _ (ix2 (⟨off + c.val, by omega⟩ : Fin 1536) o) fun x => by fin_cases x <;> simp [ix2]).trans (hf c _ rfl)
  generalize extractStridedSlice S512x256 ![off, 0] w hs = B at e
  refine Eq.trans (b := ∑ c : Fin 512, a (ix2 r c) * B (ix2 c o)) (by pointwise) ?_
  exact Finset.sum_congr rfl fun c _ => by rw [e, mul_comm]

/-- The second layer of a block: from the first layer's even and odd rows, themselves and shifted. -/
def second (he ho : FVec Ideal S4096x512 .f32) (w : FVec Ideal S2048x512 .f32) (b : FVec Ideal S1x512 .f32) : FVec Ideal S4096x512 .f32 :=
  maximumf (addf (addf (addf (addf
      (matmul dot_S4096x512_S512x512_S4096x512_1_0_0_1_n_n none (shiftR ho) (extractStridedSlice S512x512 ![0, 0] w slices_S2048x512_o0_0_S512x512) (constant S4096x512 .f32 0x00000000#32))
      (matmul dot_S4096x512_S512x512_S4096x512_1_0_0_1_n_n none he (extractStridedSlice S512x512 ![512, 0] w slices_S2048x512_o512_0_S512x512) (constant S4096x512 .f32 0x00000000#32)))
      (matmul dot_S4096x512_S512x512_S4096x512_1_0_0_1_n_n none ho (extractStridedSlice S512x512 ![1024, 0] w slices_S2048x512_o1024_0_S512x512) (constant S4096x512 .f32 0x00000000#32)))
      (matmul dot_S4096x512_S512x512_S4096x512_1_0_0_1_n_n none (shiftL he) (extractStridedSlice S512x512 ![1536, 0] w slices_S2048x512_o1536_0_S512x512) (constant S4096x512 .f32 0x00000000#32)))
      (broadcastTo S4096x512 (shapeCast S1x512 b shapeCasts_S1x512_S1x512) broadcasts_S1x512_S4096x512))
    (broadcast S4096x512 (Scalar.ofBits .f32 0x00000000#32))

/-- The third layer of a block before its bias: from the second layer's rows, themselves and shifted. -/
def third (h : FVec Ideal S4096x512 .f32) (w : FVec Ideal S1536x256 .f32) : FVec Ideal S4096x256 .f32 :=
  addf (addf
      (matmul dot_S4096x512_S512x256_S4096x256_1_0_0_1_n_n none (shiftR h) (extractStridedSlice S512x256 ![0, 0] w slices_S1536x256_o0_0_S512x256) (constant S4096x256 .f32 0x00000000#32))
      (matmul dot_S4096x512_S512x256_S4096x256_1_0_0_1_n_n none h (extractStridedSlice S512x256 ![512, 0] w slices_S1536x256_o512_0_S512x256) (constant S4096x256 .f32 0x00000000#32)))
    (matmul dot_S4096x512_S512x256_S4096x256_1_0_0_1_n_n none (shiftL h) (extractStridedSlice S512x256 ![1024, 0] w slices_S1536x256_o1024_0_S512x256) (constant S4096x256 .f32 0x00000000#32))

/-- The body's third-layer value is `third` of `second`. -/
theorem pay17_eq (a b : FVec Ideal S512x128 .f32) (w1 : FVec Ideal S16x512 .f32) (v1 : FVec Ideal S1x512 .f32) (w2 : FVec Ideal S2048x512 .f32) (v2 : FVec Ideal S1x512 .f32)
    (w3 : FVec Ideal S1536x256 .f32) :
    k0_pay17 (F := Ideal) (k0_pay10 (F := Ideal) a b w1 v1) (k0_pay11 (F := Ideal) a b w1 v1) (k0_pay12 (F := Ideal)) (k0_pay13 (F := Ideal) a b w1 v1) (k0_pay14 (F := Ideal) a b w1 v1)
      (k0_pay15 (F := Ideal) w2) (k0_pay16 (F := Ideal) w2) (constant S4096x512 .f32 0x00000000#32) v2 w3
    = third (second (k0_pay10 (F := Ideal) a b w1 v1) (k0_pay11 (F := Ideal) a b w1 v1) (shapeCast S2048x512 w2 shapeCasts_S2048x512_S2048x512) v2)
        (shapeCast S1536x256 w3 shapeCasts_S1536x256_S1536x256) := rfl

/-- The second layer at a row: the four-tap convolution of the first layer's signals. -/
theorem second_apply (he ho : FVec Ideal S4096x512 .f32) (w : FVec Ideal S2048x512 .f32) (b : FVec Ideal S1x512 .f32) (W : Fin 512 → Fin 512 → Fin 4 → EReal)
    (hW : ∀ (t : Fin 4) (c o : Fin 512) (k : Fin 2048), k.val = 512 * t.val + c.val → w (ix2 k o) = W o c t)
    (j : Fin 8) (G : Fin 512 → Fin 1024 → EReal) (hE : ∀ q o, he (ix2 (row j q) o) = G o ⟨2 * q.val, by omega⟩)
    (hO : ∀ q o, ho (ix2 (row j q) o) = G o ⟨2 * q.val + 1, by omega⟩) (q o : Fin 512) :
    second he ho w b (ix2 (row j q) o) = conv4 W (fun o => b (ix2 0 o)) G o q := by
  have e : ∀ m0 m1 m2 m3 : FVec Ideal S4096x512 .f32, maximumf (addf (addf (addf (addf m0 m1) m2) m3)
      (broadcastTo S4096x512 (shapeCast S1x512 b shapeCasts_S1x512_S1x512) broadcasts_S1x512_S4096x512))
      (broadcast S4096x512 (Scalar.ofBits .f32 0x00000000#32)) (ix2 (row j q) o)
      = max ((((m0 (ix2 (row j q) o) + m1 (ix2 (row j q) o)) + m2 (ix2 (row j q) o)) + m3 (ix2 (row j q) o)) + b (ix2 0 o)) 0 := by
    intro m0 m1 m2 m3; generalize row j q = r; pointwise
  unfold second
  rw [e, product2 _ w 0 _ _ o (fun c => W o c 0) (fun c k hk => hW 0 c o k (by simpa using hk)) (by omega),
    product2 _ w 512 _ _ o (fun c => W o c 1) (fun c k hk => hW 1 c o k (by simpa using hk)) (by omega),
    product2 _ w 1024 _ _ o (fun c => W o c 2) (fun c k hk => hW 2 c o k (by simpa using hk)) (by omega),
    product2 _ w 1536 _ _ o (fun c => W o c 3) (fun c k hk => hW 3 c o k (by simpa using hk)) (by omega)]
  unfold conv4
  refine congrArg₂ max (congrArg₂ _ (congrArg₂ _ (congrArg₂ _ (congrArg₂ _ ?_ ?_) ?_) ?_) rfl) rfl
  · refine Finset.sum_congr rfl fun c _ => congrArg _ ?_
    rw [shiftR_apply]; simp only [hO]; exact padded_even _ q
  · refine Finset.sum_congr rfl fun c _ => congrArg _ ?_
    rw [hE]; exact (padded_of _ _ _ rfl).symm
  · refine Finset.sum_congr rfl fun c _ => congrArg _ ?_
    rw [hO]; exact (padded_of _ _ _ rfl).symm
  · refine Finset.sum_congr rfl fun c _ => congrArg _ ?_
    rw [shiftL_apply]; simp only [hE]; exact padded_odd _ q

/-- The third layer at a row, its bias added: the three-tap convolution of the second layer's signals. -/
theorem third_apply (h : FVec Ideal S4096x512 .f32) (w : FVec Ideal S1536x256 .f32) (b : FVec Ideal S1x256 .f32) (W : Fin 256 → Fin 512 → Fin 3 → EReal)
    (hW : ∀ (t : Fin 3) (c : Fin 512) (o : Fin 256) (k : Fin 1536), k.val = 512 * t.val + c.val → w (ix2 k o) = W o c t)
    (j : Fin 8) (G : Fin 512 → Fin 512 → EReal) (hG : ∀ q o, h (ix2 (row j q) o) = G o q) (q : Fin 512) (o : Fin 256) :
    addf (third h w) (k0_pay18 (F := Ideal) b) (ix2 (row j q) o) = conv3 W (fun o => b (ix2 0 o)) G o q := by
  have e : ∀ m0 m1 m2 : FVec Ideal S4096x256 .f32, addf (addf (addf m0 m1) m2) (k0_pay18 (F := Ideal) b) (ix2 (row j q) o)
      = ((m0 (ix2 (row j q) o) + m1 (ix2 (row j q) o)) + m2 (ix2 (row j q) o)) + b (ix2 0 o) := by
    intro m0 m1 m2; generalize row j q = r; unfold k0_pay18; pointwise
  unfold third
  rw [e, product3 _ w 0 _ _ o (fun c => W o c 0) (fun c k hk => hW 0 c o k (by simpa using hk)) (by omega),
    product3 _ w 512 _ _ o (fun c => W o c 1) (fun c k hk => hW 1 c o k (by simpa using hk)) (by omega),
    product3 _ w 1024 _ _ o (fun c => W o c 2) (fun c k hk => hW 2 c o k (by simpa using hk)) (by omega)]
  unfold conv3
  refine congrArg₂ _ (congrArg₂ _ (congrArg₂ _ ?_ ?_) ?_) rfl
  · refine Finset.sum_congr rfl fun c _ => congrArg _ ?_
    rw [shiftR_apply]; simp only [hG]
  · refine Finset.sum_congr rfl fun c _ => congrArg _ ?_
    rw [hG]; exact (padded_succ _ q).symm
  · refine Finset.sum_congr rfl fun c _ => congrArg _ ?_
    rw [shiftL_apply]; simp only [hG]

end Cert.KernelIdeal.Layers

end
-- ==== Proof.ArgMin.lean ====
/-
  THE FIRST MINIMIZER (untrusted): the kernel's index reduction and the reference's reduction over (value, index) pairs both answer the
  first index at which a row is least.
-/
module

public import proofs.«01_k».proof.Proof.KConv
public import proofs.«01_k».proof.Proof.RefRun
public import Idealize.ShloMosaic.PureOps.Ideal.Laws

@[expose] public section

noncomputable section

namespace Cert.Enc

open Idealize.ShloMosaic Idealize.SL.Sem

/-- `k₀` is the first index at which `f` is least. -/
def IsFirstMin {n : ℕ} (f : Fin n → EReal) (k₀ : Fin n) : Prop := ∀ k, f k₀ ≤ f k ∧ (k < k₀ → f k₀ < f k)

/-- There is one. -/
theorem exists_firstMin {n : ℕ} [NeZero n] (f : Fin n → EReal) : ∃ k₀, IsFirstMin f k₀ := by
  obtain ⟨k₀, -, h⟩ := Finset.exists_min_image (Finset.univ : Finset (Fin n)) (fun k => toLex (f k, k)) ⟨0, Finset.mem_univ _⟩
  refine ⟨k₀, fun k => ?_⟩
  have hk := h k (Finset.mem_univ _)
  rw [Prod.Lex.toLex_le_toLex] at hk
  rcases hk with hk | ⟨hk, hk'⟩
  · exact ⟨hk.le, fun _ => hk⟩
  · exact ⟨hk.le, fun hlt => absurd hk' (not_le.mpr hlt)⟩

/-- It depends on the order of the values alone. -/
theorem IsFirstMin.of_lt_iff {n : ℕ} {f g : Fin n → EReal} {k₀ : Fin n} (h : IsFirstMin f k₀) (hfg : ∀ a b, f a < f b ↔ g a < g b) : IsFirstMin g k₀ :=
  fun k => ⟨not_lt.mp fun hlt => absurd ((hfg k k₀).mpr hlt) (not_lt.mpr (h k).1), fun hk => (hfg k₀ k).mp ((h k).2 hk)⟩

end Cert.Enc

namespace Cert.KernelIdeal.Layers

open Cert.KernelIdeal Cert.KernelIdeal.Gen Idealize.ShloMosaic Idealize.SL.Sem Cert.Enc

/-- The kernel's index reduction along the columns answers the first minimizer of each row. -/
theorem reduceIndex_row (v : FVec Ideal S512x1024 .f32) (q : Fin 512) (k₀ : Fin 1024) (hk : IsFirstMin (fun k => v (ix2 q k)) k₀) :
    reduceIndex .argMin 1 S512 v reduces_S512x1024_S512 (ix1 q) = BitVec.ofNat 32 k₀.val := by
  have hd : ∀ i : S512x1024.Idx, reduces_S512x1024_S512.drop i = ix1 q ↔ i 0 = q := by
    intro i
    have e : (reduces_S512x1024_S512.drop i 0).val = (i 0).val := reduces_S512x1024_S512.drop_apply_val_of_eq i 0 0
    constructor
    · intro h; rw [h] at e; exact Fin.ext e.symm
    · intro h; funext b; fin_cases b; exact Fin.ext (e.trans (congrArg Fin.val h))
  show Ideal.reduceIndex .argMin 1 reduces_S512x1024_S512 v (ix1 q) = _
  unfold Ideal.reduceIndex
  simp only [reduceCtorEq, if_false]
  refine congrArg (BitVec.ofNat 32) ?_
  have hmem : k₀.val ∈ (((Finset.univ.filter fun i : S512x1024.Idx => reduces_S512x1024_S512.drop i = ix1 q).filter fun i =>
      ∀ i' ∈ Finset.univ.filter (fun i : S512x1024.Idx => reduces_S512x1024_S512.drop i = ix1 q), ¬ v i' < v i).image fun i => (i 1).val) := by
    refine Finset.mem_image.mpr ⟨ix2 q k₀, ?_, rfl⟩
    rw [Finset.mem_filter, Finset.mem_filter]
    refine ⟨⟨Finset.mem_univ _, (hd _).mpr rfl⟩, fun i' hi' => ?_⟩
    have h0 : i' 0 = q := (hd i').mp (Finset.mem_filter.mp hi').2
    have hi : i' = ix2 q (i' 1) := by rw [← h0]; exact eq_ix2 i'
    rw [hi]; exact not_lt.mpr (hk (i' 1)).1
  obtain ⟨b, hb⟩ := Finset.min_of_mem hmem
  have hle : b ≤ k₀.val := Finset.min_le_of_eq hmem hb
  obtain ⟨i, hi, hib⟩ := Finset.mem_image.mp (Finset.mem_of_min hb)
  rw [Finset.mem_filter, Finset.mem_filter] at hi
  have h0 : i 0 = q := (hd i).mp hi.1.2
  have hi' : i = ix2 q (i 1) := by rw [← h0]; exact eq_ix2 i
  have hge : k₀.val ≤ b := by
    rw [← hib]
    by_contra hlt
    refine hi.2 (ix2 q k₀) (Finset.mem_filter.mpr ⟨Finset.mem_univ _, (hd _).mpr rfl⟩) ?_
    rw [hi']; exact (hk (i 1)).2 (not_le.mp hlt)
  have : b = k₀.val := le_antisymm hle hge
  subst this
  have : Finset.min _ = ((k₀.val : ℕ) : WithTop ℕ) := hb
  rw [this]; rfl

end Cert.KernelIdeal.Layers

namespace Cert.ReferenceIdeal.Layers

open Cert.ReferenceIdeal Cert.ReferenceIdeal.Gen Idealize.ShloMosaic Idealize.SL.Sem Cert.Enc

/-- The pairs a fold over a row can hold: the initial one, or a value of the row with its index. -/
def Held (f : Fin 1024 → EReal) (p : EReal × BitVec 32) : Prop := p = (⊤, 0#32) ∨ ∃ k : Fin 1024, p = (f k, BitVec.ofNat 32 k.val)

/-- The reference's comparison of two pairs, as a choice: the first where its value is less, or equal with a lower index. -/
theorem reducer_eq (a b : EReal × BitVec 32) :
    reducer_argmin_f32_i32 (F := Ideal) a b = if a.1 < b.1 then a else if a.1 = b.1 ∧ a.2.toInt < b.2.toInt then a else b := by
  obtain ⟨a1, a2⟩ := a
  obtain ⟨b1, b2⟩ := b
  unfold reducer_argmin_f32_i32
  by_cases h1 : a1 < b1
  · cases h : (decide (a1 = b1) && a2.slt b2) <;> simp [h, h1, Ideal.cmpf_def, Ideal.cmp, IntOp.ori, IntOp.andi, IntOp.cmpi, Scalar.select]
  · by_cases h2 : a1 = b1
    · subst h2
      by_cases h3 : a2.toInt < b2.toInt <;>
        simp [h3, Ideal.cmpf_def, Ideal.cmp, IntOp.ori, IntOp.andi, IntOp.cmpi, Scalar.select, BitVec.slt]
    · simp [h1, h2, Ideal.cmpf_def, Ideal.cmp, IntOp.ori, IntOp.andi, IntOp.cmpi, Scalar.select]

/-- The index of an element as a signed word. -/
theorem toInt_index (k : Fin 1024) : (BitVec.ofNat 32 k.val).toInt = k.val := by
  have := k.isLt
  rw [BitVec.toInt_eq_toNat_of_lt] <;> simp [BitVec.toNat_ofNat] <;> omega

/-- A comparison of held pairs holds. -/
theorem held_reducer {f : Fin 1024 → EReal} {a b : EReal × BitVec 32} (ha : Held f a) (hb : Held f b) :
    Held f (reducer_argmin_f32_i32 (F := Ideal) a b) := by
  rw [reducer_eq]; split
  · exact ha
  · split
    · exact ha
    · exact hb

/-- The pair of the first minimizer, once held, stays. -/
theorem reducer_least_left {f : Fin 1024 → EReal} {k₀ : Fin 1024} (h : IsFirstMin f k₀) (k : Fin 1024) :
    reducer_argmin_f32_i32 (F := Ideal) (f k₀, BitVec.ofNat 32 k₀.val) (f k, BitVec.ofNat 32 k.val) = (f k₀, BitVec.ofNat 32 k₀.val) := by
  rw [reducer_eq]
  split
  · rfl
  · rename_i h1
    have he : f k₀ = f k := le_antisymm (h k).1 (not_lt.mp h1)
    rcases lt_trichotomy k₀ k with hk | hk | hk
    · rw [if_pos]
      refine ⟨he, ?_⟩
      rw [toInt_index, toInt_index]; exact_mod_cast hk
    · subst hk; simp
    · exact absurd ((h k).2 hk) h1

/-- The pair of the first minimizer replaces whatever was held. -/
theorem reducer_least_right {f : Fin 1024 → EReal} {k₀ : Fin 1024} (h : IsFirstMin f k₀) (ht : f k₀ < ⊤) {a : EReal × BitVec 32} (ha : Held f a) :
    reducer_argmin_f32_i32 (F := Ideal) a (f k₀, BitVec.ofNat 32 k₀.val) = (f k₀, BitVec.ofNat 32 k₀.val) := by
  rw [reducer_eq]
  rcases ha with rfl | ⟨k, rfl⟩
  · rw [if_neg (not_lt.mpr ht.le), if_neg]
    rintro ⟨h1, -⟩; exact absurd h1 ht.ne'
  · rw [if_neg (not_lt.mpr (h k).1), if_neg]
    rintro ⟨h1, h2⟩
    rw [toInt_index, toInt_index] at h2
    exact absurd ((h k).2 (by exact_mod_cast h2)) (by simp only at h1; rw [h1]; exact lt_irrefl _)

/-- A fold over pairs of the row that meets the first minimizer's ends with it. -/
theorem fold_least {f : Fin 1024 → EReal} {k₀ : Fin 1024} (h : IsFirstMin f k₀) (ht : f k₀ < ⊤) (L : List (EReal × BitVec 32)) :
    ∀ a, (∀ p ∈ L, ∃ k : Fin 1024, p = (f k, BitVec.ofNat 32 k.val)) → Held f a →
      (a = (f k₀, BitVec.ofNat 32 k₀.val) ∨ (f k₀, BitVec.ofNat 32 k₀.val) ∈ L) →
      L.foldl (reducer_argmin_f32_i32 (F := Ideal)) a = (f k₀, BitVec.ofNat 32 k₀.val) := by
  induction L with
  | nil => intro a _ _ h'; simpa using h'
  | cons p L ih =>
    intro a hL ha h'
    obtain ⟨k, hp⟩ := hL p List.mem_cons_self
    refine ih _ (fun q hq => hL q (List.mem_cons_of_mem _ hq)) (held_reducer ha (Or.inr ⟨k, hp⟩)) ?_
    rcases h' with rfl | h'
    · left; rw [hp]; exact reducer_least_left h k
    · rcases List.mem_cons.mp h' with h' | h'
      · left; rw [← h']; exact reducer_least_right h ht ha
      · exact Or.inr h'

/-- The pairs a reduction folds over are those at the source indices of its result's fiber. -/
theorem mem_argReduceFiber {s t : Shape} {α β : Type} {axes : List (Fin s.rank)} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply]; exact hi
    · rw [Equiv.symm_apply_apply]

/-- The starting value of the distances is the greatest extended real. -/
theorem start_eq : (constant (F := Ideal) S_ .f32 0x7F800000#32 : FVec Ideal S_ .f32) = fun _ => (⊤ : EReal) := by
  funext i
  show Ideal.ofBits .f32 0x7F800000#32 = ⊤
  simp [Ideal.ofBits, Ideal.ieee]

/-- A reduction over (value, index) pairs whose fiber is one row answers the row's first minimizer. -/
theorem reduce2_row {s t u : Shape} {axes : List (Fin s.rank)} (x : s.Idx → EReal) (y : s.Idx → BitVec 32) (ix : u.Idx → EReal) (iy : u.Idx → BitVec 32)
    (h : s.ReducesTo axes t) (hu : 0 < u.numel) (j : t.Idx) (f : Fin 1024 → EReal) (k₀ : Fin 1024) (hk : IsFirstMin f k₀) (ht : f k₀ < ⊤)
    (hix : ix = fun _ => ⊤) (hiy : iy = fun _ => 0#32)
    (hrow : ∀ i, h.drop i = j → ∃ k : Fin 1024, (x i, y i) = (f k, BitVec.ofNat 32 k.val))
    (i₀ : s.Idx) (hi₀ : h.drop i₀ = j) (hv : (x i₀, y i₀) = (f k₀, BitVec.ofNat 32 k₀.val)) :
    (Host.argReduce (F := Ideal) (φ := .f32) (reducer_argmin_f32_i32 (F := Ideal)) x y ix iy h hu j).2 = BitVec.ofNat 32 k₀.val := by
  rw [Ideal.argReduce_eq_reduce2, Host.reduce2_eq_foldl_fiber, fold_least hk ht]
  · intro p hp
    obtain ⟨i, hi, rfl⟩ := (mem_argReduceFiber x y h j p).mp hp
    exact hrow i hi
  · left; rw [hix, hiy]
  · right; exact (mem_argReduceFiber x y h j _).mpr ⟨i₀, hi₀, hv.symm⟩

/-- The reference's choice as a function of the distances. -/
theorem nearest_eq : @nearest Ideal _ = fun d j => (Host.argReduce (F := Ideal) (s := (⟨S64x512x1024, .f32⟩ : BufTy).shape) (φ := .f32) (axes := [2]) (t := S64x512) (u := S_)
    (β := BitVec 32) (reducer_argmin_f32_i32 (F := Ideal)) d (iotaInDim S64x512x1024 32 2) (constant S_ .f32 0x7F800000#32) (constantI S_ 32 0#32)
    reducesTo_S64x512x1024_S64x512_d2 h_S_ j).2 := rfl

/-- The index component of that reduction at the ideal values, its shape written out. -/
theorem argReduce_snd (d : FVec Ideal S64x512x1024 .f32) (j : S64x512.Idx) : (Host.argReduce (F := Ideal) (s := (⟨S64x512x1024, .f32⟩ : BufTy).shape) (φ := .f32) (axes := [2]) (t := S64x512) (u := S_)
    (β := BitVec 32) (reducer_argmin_f32_i32 (F := Ideal)) d (iotaInDim S64x512x1024 32 2) (constant S_ .f32 0x7F800000#32) (constantI S_ 32 0#32)
    reducesTo_S64x512x1024_S64x512_d2 h_S_ j).2
    = (Host.argReduce (F := Ideal) (reducer_argmin_f32_i32 (F := Ideal)) d (iotaInDim S64x512x1024 32 2) (constant S_ .f32 0x7F800000#32)
        (constantI S_ 32 0#32) reducesTo_S64x512x1024_S64x512_d2 h_S_ j).2 := congrArg Prod.snd rfl

/-- A function known by an equation, applied. -/
theorem apply_of_eq {α β γ : Type} {g f : α → β → γ} (h : g = f) {a : α} {b : β} {k : γ} (h2 : f a b = k) : g a b = k := by rw [h]; exact h2

/-- The reference's index of the nearest codebook entry is the first minimizer of the row of distances. -/
theorem nearest_apply (d : FVec Ideal S64x512x1024 .f32) (b : Fin 64) (l : Fin 512) (k₀ : Fin 1024) (hk : IsFirstMin (fun k => d (ix3 b l k)) k₀)
    (ht : d (ix3 b l k₀) < ⊤) : nearest (F := Ideal) d (ix2 b l) = BitVec.ofNat 32 k₀.val := by
  have hd : ∀ i : S64x512x1024.Idx, reducesTo_S64x512x1024_S64x512_d2.drop i = ix2 b l ↔ i 0 = b ∧ i 1 = l := by
    intro i
    have e0 : (reducesTo_S64x512x1024_S64x512_d2.drop i 0).val = (i 0).val := reducesTo_S64x512x1024_S64x512_d2.drop_apply_val_of_eq i 0 0
    have e1 : (reducesTo_S64x512x1024_S64x512_d2.drop i 1).val = (i 1).val := reducesTo_S64x512x1024_S64x512_d2.drop_apply_val_of_eq i 1 1
    constructor
    · intro h; rw [h] at e0 e1; exact ⟨Fin.ext e0.symm, Fin.ext e1.symm⟩
    · rintro ⟨h0, h1⟩; funext c; fin_cases c
      · exact Fin.ext (e0.trans (congrArg Fin.val h0))
      · exact Fin.ext (e1.trans (congrArg Fin.val h1))
  refine apply_of_eq nearest_eq ((argReduce_snd d (ix2 b l)).trans ?_)
  refine reduce2_row d (iotaInDim S64x512x1024 32 2) _ _ reducesTo_S64x512x1024_S64x512_d2 h_S_ (ix2 b l) (fun k => d (ix3 b l k)) k₀ hk ht start_eq rfl
    (fun i hi => ?_) (ix3 b l k₀) ((hd _).mpr ⟨rfl, rfl⟩) rfl
  obtain ⟨h0, h1⟩ := (hd i).mp hi
  refine ⟨i 2, ?_⟩
  have : i = ix3 b l (i 2) := by rw [← h0, ← h1]; exact eq_ix3 i
  exact Prod.ext (congrArg d this) rfl

end Cert.ReferenceIdeal.Layers

end
-- ==== Proof.KPay.lean ====
/-
  THE KERNEL'S CHOICE (untrusted): the last part of the block's computation, from the features to the indices of the nearest codebook rows.
-/
module

public import proofs.«01_k».proof.Proof.ArgMin

@[expose] public section

noncomputable section

namespace Cert.KernelIdeal.Layers

open Cert.KernelIdeal Cert.KernelIdeal.Gen Idealize.ShloMosaic Idealize.SL.Sem Cert.Enc

/-- The kernel's reduced distances: the codebook's squared norms plus the products with the scaled codebook. -/
def reduced (z : FVec Ideal S4096x256 .f32) (cn : FVec Ideal S1x1024 .f32) (ct : FVec Ideal S256x1024 .f32) : FVec Ideal S4096x1024 .f32 :=
  addf (broadcastTo S4096x1024 (shapeCast S1x1024 cn shapeCasts_S1x1024_S1x1024) broadcasts_S1x1024_S4096x1024)
    (matmul dot_S4096x256_S256x1024_S4096x1024_1_0_0_1_n_n none z (shapeCast S256x1024 ct shapeCasts_S256x1024_S256x1024)
      (constant S4096x1024 .f32 0x00000000#32))

/-- One sample's choices, as a row. -/
def pick (D : FVec Ideal S4096x1024 .f32) (o : ℕ) (h : S4096x1024.Slices ![o, 0] S512x1024) : IVec S1x512 32 :=
  shapeCast S1x512 (reduceIndex .argMin 1 S512 (extractStridedSlice S512x1024 ![o, 0] D h) reduces_S512x1024_S512) shapeCasts_S512_S1x512

/-- The eight samples' choices. -/
def picks (D : FVec Ideal S4096x1024 .f32) : IVec S8x512 32 :=
  concatenate S8x512 0 [⟨S1x512, pick D 0 slices_S4096x1024_o0_0_S512x1024⟩, ⟨S1x512, pick D 512 slices_S4096x1024_o512_0_S512x1024⟩, ⟨S1x512, pick D 1024 slices_S4096x1024_o1024_0_S512x1024⟩, ⟨S1x512, pick D 1536 slices_S4096x1024_o1536_0_S512x1024⟩, ⟨S1x512, pick D 2048 slices_S4096x1024_o2048_0_S512x1024⟩, ⟨S1x512, pick D 2560 slices_S4096x1024_o2560_0_S512x1024⟩, ⟨S1x512, pick D 3072 slices_S4096x1024_o3072_0_S512x1024⟩, ⟨S1x512, pick D 3584 slices_S4096x1024_o3584_0_S512x1024⟩]
    concatenates_S1x512_S1x512_S1x512_S1x512_S1x512_S1x512_S1x512_S1x512_S8x512_d0

/-- The block's result is the eight rows of choices. -/
theorem pay1_eq (a b : FVec Ideal S4096x256 .f32) (cn : Vec Ideal S1x1024 .f32) (ct : Vec Ideal S256x1024 .f32) :
    k0_pay1 (F := Ideal) a b cn ct = shapeCast S1x8x512 (picks (reduced (addf a b) cn ct)) shapeCasts_S8x512_S1x8x512 := rfl

/-- A reduced distance. -/
theorem reduced_apply (z : FVec Ideal S4096x256 .f32) (cn : FVec Ideal S1x1024 .f32) (ct : FVec Ideal S256x1024 .f32) (r : Fin 4096) (k : Fin 1024) :
    reduced z cn ct (ix2 r k) = cn (ix2 0 k) + ∑ d : Fin 256, z (ix2 r d) * ct (ix2 d k) := by
  unfold reduced
  pointwise

/-- Sample `j`'s choice at position `q` is the first minimizer of its row. -/
theorem pick_apply (D : FVec Ideal S4096x1024 .f32) (j : Fin 8) (o : ℕ) (ho : o = 512 * j.val) (h) (q : Fin 512) (k₀ : Fin 1024)
    (hk : IsFirstMin (fun k => D (ix2 (row j q) k)) k₀) : pick D o h (ix2 0 q) = BitVec.ofNat 32 k₀.val := by
  subst ho
  unfold pick
  rw [shapeCast_apply _ _ (ix2 0 q) (ix1 q) (by simp [Shape.rowMajor_val_two, Shape.rowMajor_val_one, ix1, ix2])]
  refine reduceIndex_row _ q k₀ ?_
  have : (fun k => extractStridedSlice S512x1024 ![512 * j.val, 0] D h (ix2 q k)) = fun k => D (ix2 (row j q) k) := by
    funext k
    refine extractStridedSlice_apply _ _ _ (ix2 q k) (ix2 (row j q) k) fun a => ?_
    fin_cases a
    · show 512 * j.val + q.val = 512 * j.val + q.val; rfl
    · show k.val = 0 + k.val; omega
  rw [this]; exact hk

set_option maxHeartbeats 1000000 in
/-- The choices of all eight samples, read at an index. -/
theorem picks_apply (D : FVec Ideal S4096x1024 .f32) (j : Fin 8) (q : Fin 512) (k₀ : Fin 1024)
    (hk : IsFirstMin (fun k => D (ix2 (row j q) k)) k₀) : picks D (ix2 j q) = BitVec.ofNat 32 k₀.val := by
  unfold picks
  match j with
  | ⟨0, _⟩ => exact (cat0 _ _ _ q 0 (by simp) _ rfl 0 (by simp) 0 (by simp)).trans (pick_apply D ⟨0, by omega⟩ 0 (by simp) _ q k₀ hk)
  | ⟨1, _⟩ => exact (cat0 _ _ _ q 1 (by simp) _ rfl 1 (by simp) 0 (by simp)).trans (pick_apply D ⟨1, by omega⟩ 512 (by simp) _ q k₀ hk)
  | ⟨2, _⟩ => exact (cat0 _ _ _ q 2 (by simp) _ rfl 2 (by simp) 0 (by simp)).trans (pick_apply D ⟨2, by omega⟩ 1024 (by simp) _ q k₀ hk)
  | ⟨3, _⟩ => exact (cat0 _ _ _ q 3 (by simp) _ rfl 3 (by simp) 0 (by simp)).trans (pick_apply D ⟨3, by omega⟩ 1536 (by simp) _ q k₀ hk)
  | ⟨4, _⟩ => exact (cat0 _ _ _ q 4 (by simp) _ rfl 4 (by simp) 0 (by simp)).trans (pick_apply D ⟨4, by omega⟩ 2048 (by simp) _ q k₀ hk)
  | ⟨5, _⟩ => exact (cat0 _ _ _ q 5 (by simp) _ rfl 5 (by simp) 0 (by simp)).trans (pick_apply D ⟨5, by omega⟩ 2560 (by simp) _ q k₀ hk)
  | ⟨6, _⟩ => exact (cat0 _ _ _ q 6 (by simp) _ rfl 6 (by simp) 0 (by simp)).trans (pick_apply D ⟨6, by omega⟩ 3072 (by simp) _ q k₀ hk)
  | ⟨7, _⟩ => exact (cat0 _ _ _ q 7 (by simp) _ rfl 7 (by simp) 0 (by simp)).trans (pick_apply D ⟨7, by omega⟩ 3584 (by simp) _ q k₀ hk)

/-- The block's result at sample `j` and position `q` is the first index at which the reduced distance is least. -/
theorem pay1_apply (a b : FVec Ideal S4096x256 .f32) (cn : Vec Ideal S1x1024 .f32) (ct : Vec Ideal S256x1024 .f32) (j : Fin 8) (q : Fin 512)
    (k₀ : Fin 1024) (hk : IsFirstMin (fun k => cn (ix2 0 k) + ∑ d : Fin 256, (addf a b) (ix2 (row j q) d) * ct (ix2 d k)) k₀) :
    k0_pay1 (F := Ideal) a b cn ct (ix3 0 j q) = BitVec.ofNat 32 k₀.val := by
  rw [pay1_eq, shapeCast_apply _ _ (ix3 0 j q) (ix2 j q) (by simp [Shape.rowMajor_val_two, Shape.rowMajor_val_three, ix2, ix3])]
  refine picks_apply _ j q k₀ ?_
  simp only [reduced_apply]
  exact hk

end Cert.KernelIdeal.Layers

end
-- ==== Proof.KBlock.lean ====
/-
  THE BLOCK'S VALUE (untrusted): one grid point computes, for each of its eight samples, the index of the codebook row nearest to each feature
  vector of the sample's encoding.
-/
module

public import proofs.«01_k».proof.Proof.KPay
public import proofs.«01_k».proof.Proof.Gen.KernelIdeal.Frame
public import Idealize.ShloMosaic.Lib.Pointwise
public import Idealize.ShloMosaic.Lib.Pointwise.Blocks
public import Idealize.ShloMosaic.Lib.Pipeline.Value

@[expose] public section

noncomputable section

namespace Cert.Enc

open Idealize.ShloMosaic Idealize.SL.Sem

/-- The encoder of one sample: three convolutions, channel by channel. -/
def encode (w1 : Fin 512 → Fin 4 → Fin 4 → EReal) (b1 : Fin 512 → EReal) (w2 : Fin 512 → Fin 512 → Fin 4 → EReal) (b2 : Fin 512 → EReal)
    (w3 : Fin 256 → Fin 512 → Fin 3 → EReal) (b3 : Fin 256 → EReal) (x : Fin 4 → Fin 2048 → EReal) (d : Fin 256) (l : Fin 512) : EReal :=
  conv3 w3 b3 (fun o (l : Fin 512) => conv4 w2 b2 (fun o (l : Fin 1024) => conv4 w1 b1 x o l) o l) d l

end Cert.Enc

namespace Cert.KernelIdeal.Layers

open Cert.KernelIdeal Cert.KernelIdeal.Gen Idealize.ShloMosaic Idealize.SL.Sem Cert.Enc

/-- Sample `j` of a block of eight. -/
def image (x0 : FVec Ideal S8x4x2048 .f32) (j : Fin 8) : FVec Ideal S1x4x2048 .f32 := fun i => x0 (ix3 j (i 1) (i 2))

/-- The load of sample 0. -/
theorem ld_image0 (x0 : FVec Ideal S8x4x2048 .f32) : View.ld (Val := Elt Ideal) (e' := .f32) x0 r0_0 = image x0 0 := by
  funext i
  rw [image, eq_ix3 i]
  pointwise

/-- The load of sample 1. -/
theorem ld_image1 (x0 : FVec Ideal S8x4x2048 .f32) : View.ld (Val := Elt Ideal) (e' := .f32) x0 r0_1 = image x0 1 := by
  funext i
  rw [image, eq_ix3 i]
  pointwise

/-- The load of sample 2. -/
theorem ld_image2 (x0 : FVec Ideal S8x4x2048 .f32) : View.ld (Val := Elt Ideal) (e' := .f32) x0 r0_2 = image x0 2 := by
  funext i
  rw [image, eq_ix3 i]
  pointwise

/-- The load of sample 3. -/
theorem ld_image3 (x0 : FVec Ideal S8x4x2048 .f32) : View.ld (Val := Elt Ideal) (e' := .f32) x0 r0_3 = image x0 3 := by
  funext i
  rw [image, eq_ix3 i]
  pointwise

/-- The load of sample 4. -/
theorem ld_image4 (x0 : FVec Ideal S8x4x2048 .f32) : View.ld (Val := Elt Ideal) (e' := .f32) x0 r0_4 = image x0 4 := by
  funext i
  rw [image, eq_ix3 i]
  pointwise

/-- The load of sample 5. -/
theorem ld_image5 (x0 : FVec Ideal S8x4x2048 .f32) : View.ld (Val := Elt Ideal) (e' := .f32) x0 r0_5 = image x0 5 := by
  funext i
  rw [image, eq_ix3 i]
  pointwise

/-- The load of sample 6. -/
theorem ld_image6 (x0 : FVec Ideal S8x4x2048 .f32) : View.ld (Val := Elt Ideal) (e' := .f32) x0 r0_6 = image x0 6 := by
  funext i
  rw [image, eq_ix3 i]
  pointwise

/-- The load of sample 7. -/
theorem ld_image7 (x0 : FVec Ideal S8x4x2048 .f32) : View.ld (Val := Elt Ideal) (e' := .f32) x0 r0_7 = image x0 7 := by
  funext i
  rw [image, eq_ix3 i]
  pointwise

/-- The first layer over the eight samples, even rows then odd rows. -/
def first (x0 : FVec Ideal S8x4x2048 .f32) (x1 : FVec Ideal S16x512 .f32) (x2 : FVec Ideal S1x512 .f32) : FVec Ideal S8192x512 .f32 :=
  k0_pay9 (F := Ideal) (k0_pay7 (F := Ideal) (k0_pay2 (F := Ideal) (image x0 0)) (k0_pay3 (F := Ideal) (image x0 1)) (k0_pay4 (F := Ideal) (image x0 2)) (k0_pay5 (F := Ideal) (image x0 3)) (image x0 4) (image x0 5) (image x0 6) (image x0 7))
    (k0_pay8 (F := Ideal) (k0_pay2 (F := Ideal) (image x0 0)) (k0_pay3 (F := Ideal) (image x0 1)) (k0_pay4 (F := Ideal) (image x0 2)) (k0_pay5 (F := Ideal) (image x0 3)) (image x0 4) (image x0 5) (image x0 6) (image x0 7)) x1 x2

/-- The features of the eight samples, before the last bias. -/
def features (x0 : FVec Ideal S8x4x2048 .f32) (x1 : FVec Ideal S16x512 .f32) (x2 : FVec Ideal S1x512 .f32) (x3 : FVec Ideal S2048x512 .f32)
    (x4 : FVec Ideal S1x512 .f32) (x5 : FVec Ideal S1536x256 .f32) : FVec Ideal S4096x256 .f32 :=
  third (second (extractStridedSlice S4096x512 ![0, 0] (first x0 x1 x2) slices_S8192x512_o0_0_S4096x512)
      (extractStridedSlice S4096x512 ![4096, 0] (first x0 x1 x2) slices_S8192x512_o4096_0_S4096x512)
      (shapeCast S2048x512 x3 shapeCasts_S2048x512_S2048x512) x4) (shapeCast S1536x256 x5 shapeCasts_S1536x256_S1536x256)

/-- What a grid point leaves in its output block. -/
theorem out_eq (x0 : FVec Ideal S8x4x2048 .f32) (x1 : FVec Ideal S16x512 .f32) (x2 : FVec Ideal S1x512 .f32) (x3 : FVec Ideal S2048x512 .f32)
    (x4 : FVec Ideal S1x512 .f32) (x5 : FVec Ideal S1536x256 .f32) (x6 : FVec Ideal S1x256 .f32) (x7 : FVec Ideal S256x1024 .f32)
    (x8 : FVec Ideal S1x1024 .f32) :
    out0_9 (F := Ideal) x0 x1 x2 x3 x4 x5 x6 x7 x8 = k0_pay1 (F := Ideal) (features x0 x1 x2 x3 x4 x5) (k0_pay18 (F := Ideal) x6) x8 x7 := by
  have z2 : (![0, 0] : Fin 2 → ℕ) = fun _ => 0 := by funext a; fin_cases a <;> rfl
  have z3 : (![0, 0, 0] : Fin 3 → ℕ) = fun _ => 0 := by funext a; fin_cases a <;> rfl
  have l1 : View.ld (Val := Elt Ideal) (e' := .f32) x1 r0_8 = x1 := View.ld_unit_zero (Val := Elt Ideal) (e := .f32) (S := S16x512) z2 inb_S16x512_S16x512_0_0 x1
  have l2 : View.ld (Val := Elt Ideal) (e' := .f32) x2 r0_9 = x2 := View.ld_unit_zero (Val := Elt Ideal) (e := .f32) (S := S1x512) z2 inb_S1x512_S1x512_0_0 x2
  have l3 : View.ld (Val := Elt Ideal) (e' := .f32) x3 r0_10 = x3 := View.ld_unit_zero (Val := Elt Ideal) (e := .f32) (S := S2048x512) z2 inb_S2048x512_S2048x512_0_0 x3
  have l4 : View.ld (Val := Elt Ideal) (e' := .f32) x4 r0_9 = x4 := View.ld_unit_zero (Val := Elt Ideal) (e := .f32) (S := S1x512) z2 inb_S1x512_S1x512_0_0 x4
  have l5 : View.ld (Val := Elt Ideal) (e' := .f32) x5 r0_11 = x5 := View.ld_unit_zero (Val := Elt Ideal) (e := .f32) (S := S1536x256) z2 inb_S1536x256_S1536x256_0_0 x5
  have l6 : View.ld (Val := Elt Ideal) (e' := .f32) x6 r0_12 = x6 := View.ld_unit_zero (Val := Elt Ideal) (e := .f32) (S := S1x256) z2 inb_S1x256_S1x256_0_0 x6
  have l8 : View.ld (Val := Elt Ideal) (e' := .f32) x8 r0_13 = x8 := View.ld_unit_zero (Val := Elt Ideal) (e := .f32) (S := S1x1024) z2 inb_S1x1024_S1x1024_0_0 x8
  have l7 : View.ld (Val := Elt Ideal) (e' := .f32) x7 r0_14 = x7 := View.ld_unit_zero (Val := Elt Ideal) (e := .f32) (S := S256x1024) z2 inb_S256x1024_S256x1024_0_0 x7
  unfold_out out0_9
  rw [View.canon_unit_zero z3]
  rw [ld_image0, ld_image1, ld_image2, ld_image3, ld_image4, ld_image5, ld_image6, ld_image7]
  rw [l1, l2, l3, l4, l5, l6, l7, l8]
  rw [pay17_eq]
  rfl

/-- The features of sample `j` are its encoding. -/
theorem features_apply (x0 : FVec Ideal S8x4x2048 .f32) (x1 : FVec Ideal S16x512 .f32) (x2 : FVec Ideal S1x512 .f32) (x3 : FVec Ideal S2048x512 .f32)
    (x4 : FVec Ideal S1x512 .f32) (x5 : FVec Ideal S1536x256 .f32) (x6 : FVec Ideal S1x256 .f32)
    (w1 : Fin 512 → Fin 4 → Fin 4 → EReal) (w2 : Fin 512 → Fin 512 → Fin 4 → EReal) (w3 : Fin 256 → Fin 512 → Fin 3 → EReal)
    (h1 : ∀ (t i : Fin 4) (o : Fin 512), x1 (ix2 ⟨4 * t.val + i.val, by omega⟩ o) = w1 o i t)
    (h3 : ∀ (t : Fin 4) (i o : Fin 512), x3 (ix2 ⟨512 * t.val + i.val, by omega⟩ o) = w2 o i t)
    (h5 : ∀ (t : Fin 3) (i : Fin 512) (o : Fin 256), x5 (ix2 ⟨512 * t.val + i.val, by omega⟩ o) = w3 o i t)
    (j : Fin 8) (q : Fin 512) (d : Fin 256) :
    addf (features x0 x1 x2 x3 x4 x5) (k0_pay18 (F := Ideal) x6) (ix2 (row j q) d)
      = encode w1 (fun o => x2 (ix2 0 o)) w2 (fun o => x4 (ix2 0 o)) w3 (fun o => x6 (ix2 0 o)) (fun c p => x0 (ix3 j c p)) d q := by
  unfold features encode
  refine third_apply _ _ x6 w3 (fun t c o k hk => ?_) j _ (fun q o => ?_) q d
  · rw [show k = ⟨512 * t.val + c.val, by omega⟩ from Fin.ext hk, ← h5]; pointwise
  · refine second_apply _ _ _ x4 w2 (fun t c o k hk => ?_) j _ (fun q o => ?_) (fun q o => ?_) q o
    · rw [show k = ⟨512 * t.val + c.val, by omega⟩ from Fin.ext hk, ← h3]; pointwise
    · refine (extractStridedSlice_apply _ _ _ _ (ix2 ⟨512 * j.val + q.val, by omega⟩ o) fun a => ?_).trans (layer1_even (image x0) x1 x2 w1 h1 j q o)
      fin_cases a
      · show 512 * j.val + q.val = 0 + (512 * j.val + q.val); omega
      · show o.val = 0 + o.val; omega
    · refine (extractStridedSlice_apply _ _ _ _ (ix2 ⟨4096 + (512 * j.val + q.val), by omega⟩ o) fun a => ?_).trans (layer1_odd (image x0) x1 x2 w1 h1 j q o)
      fin_cases a
      · rfl
      · show o.val = 0 + o.val; omega

/-- The block's entry for sample `j` and position `q` is the first codebook row at which the reduced distance is least. -/
theorem out_apply (x0 : FVec Ideal S8x4x2048 .f32) (x1 : FVec Ideal S16x512 .f32) (x2 : FVec Ideal S1x512 .f32) (x3 : FVec Ideal S2048x512 .f32)
    (x4 : FVec Ideal S1x512 .f32) (x5 : FVec Ideal S1536x256 .f32) (x6 : FVec Ideal S1x256 .f32) (x7 : FVec Ideal S256x1024 .f32)
    (x8 : FVec Ideal S1x1024 .f32)
    (w1 : Fin 512 → Fin 4 → Fin 4 → EReal) (w2 : Fin 512 → Fin 512 → Fin 4 → EReal) (w3 : Fin 256 → Fin 512 → Fin 3 → EReal)
    (h1 : ∀ (t i : Fin 4) (o : Fin 512), x1 (ix2 ⟨4 * t.val + i.val, by omega⟩ o) = w1 o i t)
    (h3 : ∀ (t : Fin 4) (i o : Fin 512), x3 (ix2 ⟨512 * t.val + i.val, by omega⟩ o) = w2 o i t)
    (h5 : ∀ (t : Fin 3) (i : Fin 512) (o : Fin 256), x5 (ix2 ⟨512 * t.val + i.val, by omega⟩ o) = w3 o i t)
    (j : Fin 8) (q : Fin 512) (k₀ : Fin 1024)
    (hk : IsFirstMin (fun k => x8 (ix2 0 k) + ∑ d : Fin 256,
      encode w1 (fun o => x2 (ix2 0 o)) w2 (fun o => x4 (ix2 0 o)) w3 (fun o => x6 (ix2 0 o)) (fun c p => x0 (ix3 j c p)) d q * x7 (ix2 d k)) k₀) :
    out0_9 (F := Ideal) x0 x1 x2 x3 x4 x5 x6 x7 x8 (ix3 0 j q) = BitVec.ofNat 32 k₀.val := by
  rw [out_eq]
  refine pay1_apply _ _ x8 x7 j q k₀ ?_
  simp only [features_apply x0 x1 x2 x3 x4 x5 x6 w1 w2 w3 h1 h3 h5 j q]
  exact hk

end Cert.KernelIdeal.Layers

end
-- ==== Proof.KHost.lean ====
/-
  THE PREPARED OPERANDS (untrusted): what the host operations before the kernel leave in its operand arrays, read at an index of the arguments.
-/
module

public import proofs.«01_k».proof.Proof.Gen.KernelIdeal.Frame
public import Idealize.ShloMosaic.Lib.StableHlo.ReadAt
public import Idealize.ShloMosaic.Lib.Pointwise

@[expose] public section

noncomputable section

namespace Cert.KernelIdeal.Layers

open Cert.KernelIdeal Cert.KernelIdeal.Gen Idealize.ShloMosaic Idealize.SL.Sem

variable (m : (ℓ : Loc nD τ sig) → Buf (Elt Ideal) ℓ) (c : Dev nD)

/-- Argument 0 as an array of extended reals. -/
abbrev arg0 : FVec Ideal S64x4x2048 .f32 := m ((c.tc : Thread nD τ).loc main_arg0)
/-- Argument 1 as an array of extended reals. -/
abbrev arg1 : FVec Ideal S512x4x4 .f32 := m ((c.tc : Thread nD τ).loc main_arg1)
/-- Argument 2 as an array of extended reals. -/
abbrev arg2 : FVec Ideal S512 .f32 := m ((c.tc : Thread nD τ).loc main_arg2)
/-- Argument 3 as an array of extended reals. -/
abbrev arg3 : FVec Ideal S512x512x4 .f32 := m ((c.tc : Thread nD τ).loc main_arg3)
/-- Argument 4 as an array of extended reals. -/
abbrev arg4 : FVec Ideal S512 .f32 := m ((c.tc : Thread nD τ).loc main_arg4)
/-- Argument 5 as an array of extended reals. -/
abbrev arg5 : FVec Ideal S256x512x3 .f32 := m ((c.tc : Thread nD τ).loc main_arg5)
/-- Argument 6 as an array of extended reals. -/
abbrev arg6 : FVec Ideal S256 .f32 := m ((c.tc : Thread nD τ).loc main_arg6)
/-- Argument 7 as an array of extended reals. -/
abbrev arg7 : FVec Ideal S1024x256 .f32 := m ((c.tc : Thread nD τ).loc main_arg7)

/-- The first layer's weights: row `4 t + i` is tap `t` of channel `i`. -/
theorem prep_v1 (t i : Fin 4) (o : Fin 512) : (V m c main_v1 : FVec Ideal S16x512 .f32) (ix2 ⟨4 * t.val + i.val, by omega⟩ o) = arg1 m c (ix3 o i t) := by
  show StableHlo.after hostOps0 (fun b => m (c, b)) (Proc.devRef .tc main_v1) (ix2 ⟨4 * t.val + i.val, by omega⟩ o) = _
  unfold hostOps0
  after_reads_at

/-- The second layer's weights: row `512 t + i` is tap `t` of channel `i`. -/
theorem prep_v3 (t : Fin 4) (i : Fin 512) (o : Fin 512) : (V m c main_v3 : FVec Ideal S2048x512 .f32) (ix2 ⟨512 * t.val + i.val, by omega⟩ o) = arg3 m c (ix3 o i t) := by
  show StableHlo.after hostOps0 (fun b => m (c, b)) (Proc.devRef .tc main_v3) (ix2 ⟨512 * t.val + i.val, by omega⟩ o) = _
  unfold hostOps0
  after_reads_at

/-- The third layer's weights: row `512 t + i` is tap `t` of channel `i`. -/
theorem prep_v5 (t : Fin 3) (i : Fin 512) (o : Fin 256) : (V m c main_v5 : FVec Ideal S1536x256 .f32) (ix2 ⟨512 * t.val + i.val, by omega⟩ o) = arg5 m c (ix3 o i t) := by
  show StableHlo.after hostOps0 (fun b => m (c, b)) (Proc.devRef .tc main_v5) (ix2 ⟨512 * t.val + i.val, by omega⟩ o) = _
  unfold hostOps0
  after_reads_at

/-- The codebook's factor is minus two. -/
theorem neg_two_bits : Ideal.ofBits .f32 0xC0000000#32 = -2 := by
  simp [Ideal.ofBits, Ideal.ieee]
  rw [← EReal.coe_mul]; norm_num
  rfl

/-- The scaled codebook, transposed. -/
theorem prep_v8 (d : Fin 256) (k : Fin 1024) : (V m c main_v8 : FVec Ideal S256x1024 .f32) (ix2 d k) = (-2 : EReal) * arg7 m c (ix2 k d) := by
  show StableHlo.after hostOps0 (fun b => m (c, b)) (Proc.devRef .tc main_v8) (ix2 d k) = _
  unfold hostOps0
  after_reads_at
  rw [neg_two_bits]

/-- The codebook's squared norms. -/
theorem prep_v11 (k : Fin 1024) : (V m c main_v11 : FVec Ideal S1x1024 .f32) (ix2 0 k) = ∑ d : Fin 256, arg7 m c (ix2 k d) * arg7 m c (ix2 k d) := by
  show StableHlo.after hostOps0 (fun b => m (c, b)) (Proc.devRef .tc main_v11) (ix2 0 k) = _
  unfold hostOps0
  after_reads_at

/-- The first bias. -/
theorem prep_v12 (o : Fin 512) : (V m c main_v12 : FVec Ideal S1x512 .f32) (ix2 0 o) = arg2 m c (ix1 o) := by
  show StableHlo.after hostOps0 (fun b => m (c, b)) (Proc.devRef .tc main_v12) (ix2 0 o) = _
  unfold hostOps0
  after_reads_at

/-- The second bias. -/
theorem prep_v13 (o : Fin 512) : (V m c main_v13 : FVec Ideal S1x512 .f32) (ix2 0 o) = arg4 m c (ix1 o) := by
  show StableHlo.after hostOps0 (fun b => m (c, b)) (Proc.devRef .tc main_v13) (ix2 0 o) = _
  unfold hostOps0
  after_reads_at

/-- The third bias. -/
theorem prep_v14 (o : Fin 256) : (V m c main_v14 : FVec Ideal S1x256 .f32) (ix2 0 o) = arg6 m c (ix1 o) := by
  show StableHlo.after hostOps0 (fun b => m (c, b)) (Proc.devRef .tc main_v14) (ix2 0 o) = _
  unfold hostOps0
  after_reads_at

end Cert.KernelIdeal.Layers

end
-- ==== Proof.KRun.lean ====
/-
  THE KERNEL'S RESULT (untrusted): the result array after the run, read at a sample and a position.
-/
module

public import proofs.«01_k».proof.Proof.KBlock
public import proofs.«01_k».proof.Proof.KHost
public import Idealize.ShloMosaic.Lib.Claim
public import Idealize.ShloMosaic.Lib.Pipeline.ValueKit.Point

@[expose] public section

noncomputable section

namespace Cert.KernelIdeal.Layers

open Cert.KernelIdeal Cert.KernelIdeal.Gen Idealize.ShloMosaic Idealize.SL.Sem Cert.Enc

variable (m : (ℓ : Loc nD τ sig) → Buf (Elt Ideal) ℓ) (c : Dev nD)

/-- The windows' index maps: the samples and the result move with the grid point, every other operand is one block. -/
theorem idx (t : Fin cfg0.N) : win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0] :=
  (by decide +kernel : ∀ t : Fin grid0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0]) t

/-- The block of samples at a grid point. -/
theorem blk0 (t : Fin 8) (j : Fin 8) (i : Fin 4) (p : Fin 2048) :
    (iblk m c 0 t : FVec Ideal S8x4x2048 .f32) (ix3 j i p) = arg0 m c (ix3 (⟨8 * t.val + j.val, by omega⟩ : Fin 64) i p) := by
  blk_ext [iblk, V_main_arg0, idx t]

/-- Operand 1 is one block at every grid point. -/
theorem blk1 (t : Fin 8) (a : Fin 16) (b : Fin 512) : (iblk m c 1 t : FVec Ideal S16x512 .f32) (ix2 a b) = (V m c main_v1 : FVec Ideal S16x512 .f32) (ix2 a b) := by
  unfold iblk
  blk_ext [idx t]

/-- Operand 2 is one block at every grid point. -/
theorem blk2 (t : Fin 8) (a : Fin 1) (b : Fin 512) : (iblk m c 2 t : FVec Ideal S1x512 .f32) (ix2 a b) = (V m c main_v12 : FVec Ideal S1x512 .f32) (ix2 a b) := by
  unfold iblk
  blk_ext [idx t]

/-- Operand 3 is one block at every grid point. -/
theorem blk3 (t : Fin 8) (a : Fin 2048) (b : Fin 512) : (iblk m c 3 t : FVec Ideal S2048x512 .f32) (ix2 a b) = (V m c main_v3 : FVec Ideal S2048x512 .f32) (ix2 a b) := by
  unfold iblk
  blk_ext [idx t]

/-- Operand 4 is one block at every grid point. -/
theorem blk4 (t : Fin 8) (a : Fin 1) (b : Fin 512) : (iblk m c 4 t : FVec Ideal S1x512 .f32) (ix2 a b) = (V m c main_v13 : FVec Ideal S1x512 .f32) (ix2 a b) := by
  unfold iblk
  blk_ext [idx t]

/-- Operand 5 is one block at every grid point. -/
theorem blk5 (t : Fin 8) (a : Fin 1536) (b : Fin 256) : (iblk m c 5 t : FVec Ideal S1536x256 .f32) (ix2 a b) = (V m c main_v5 : FVec Ideal S1536x256 .f32) (ix2 a b) := by
  unfold iblk
  blk_ext [idx t]

/-- Operand 6 is one block at every grid point. -/
theorem blk6 (t : Fin 8) (a : Fin 1) (b : Fin 256) : (iblk m c 6 t : FVec Ideal S1x256 .f32) (ix2 a b) = (V m c main_v14 : FVec Ideal S1x256 .f32) (ix2 a b) := by
  unfold iblk
  blk_ext [idx t]

/-- Operand 7 is one block at every grid point. -/
theorem blk7 (t : Fin 8) (a : Fin 256) (b : Fin 1024) : (iblk m c 7 t : FVec Ideal S256x1024 .f32) (ix2 a b) = (V m c main_v8 : FVec Ideal S256x1024 .f32) (ix2 a b) := by
  unfold iblk
  blk_ext [idx t]

/-- Operand 8 is one block at every grid point. -/
theorem blk8 (t : Fin 8) (a : Fin 1) (b : Fin 1024) : (iblk m c 8 t : FVec Ideal S1x1024 .f32) (ix2 a b) = (V m c main_v11 : FVec Ideal S1x1024 .f32) (ix2 a b) := by
  unfold iblk
  blk_ext [idx t]

/-- What grid point `t` computes. -/
def point (t : Fin 8) : IVec S1x8x512 32 := out0_9 (F := Ideal) (iblk m c 0 t) (iblk m c 1 t) (iblk m c 2 t) (iblk m c 3 t) (iblk m c 4 t) (iblk m c 5 t) (iblk m c 6 t) (iblk m c 7 t) (iblk m c 8 t)

/-- The result array: block `t` is what point `t` computes. -/
def blocks : IVec S8x8x512 32 := fun i => point m c (i 0) (ix3 0 (i 1) (i 2))

/-- The result array after the run. -/
theorem final : (dats (F := Ideal) m 0 c).arrAt 9 cfg0.N = blocks m c := by
  refine (dats (F := Ideal) m 0 c).arrAt_eq_of_covers 9 _ (by decide +kernel) fun t hf y => ?_
  blk_simp
  rw [after0_9]
  have e : (win0_9.blk t).view.emb y = ix3 (t : Fin 8) (y 1) (y 2) := by blk_ext [idx t]
  have hy : y = ix3 (0 : Fin 1) (y 1) (y 2) := by blk_ext []
  rw [e]
  show point m c t y = point m c t (ix3 0 (y 1) (y 2))
  exact congrArg _ hy

/-- The host's last reshape reads the result array. -/
theorem tail : Pipeline.afterTail₀ cfgs (dats (F := Ideal) m) 0 (V0 m) [hostOps1] c main_v16
    = shapeCast S64x512 (blocks m c) shapeCasts_S8x8x512_S64x512 := by
  have hw : Pipeline.withArrays spec0 c (V0 m c) (fun w => (dats (F := Ideal) m 0 c).arrAt w cfg0.N) (Proc.devRef .tc main_v15) = blocks m c :=
    (Pipeline.withArrays_arr spec0 (by decide) c (V0 m c) (fun w => (dats (F := Ideal) m 0 c).arrAt w cfg0.N) 9).trans (final m c)
  unfold Pipeline.afterTail₀
  show StableHlo.after hostOps1 _ (Proc.devRef .tc main_v16) = _
  unfold hostOps1
  after_reads_simp
  exact congrArg (fun v => shapeCast S64x512 v shapeCasts_S8x8x512_S64x512) hw

/-- The kernel runs to the array of choices, its arguments as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = shapeCast S64x512 (blocks m c) shapeCasts_S8x8x512_S64x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from Gen.run_main (F := Ideal) m ρ & Gen.frame (F := Ideal) m ρ
  · exact tail m c
  · exact W_main_arg1 m _ c
  · exact W_main_arg2 m _ c
  · exact W_main_arg3 m _ c
  · exact W_main_arg4 m _ c
  · exact W_main_arg5 m _ c
  · exact W_main_arg6 m _ c
  · exact W_main_arg7 m _ c

/-- The encoding of sample `b`. -/
def enc (b : Fin 64) (d : Fin 256) (l : Fin 512) : EReal :=
  encode (fun o i t => arg1 m c (ix3 o i t)) (fun o => arg2 m c (ix1 o)) (fun o i t => arg3 m c (ix3 o i t)) (fun o => arg4 m c (ix1 o))
    (fun o i t => arg5 m c (ix3 o i t)) (fun o => arg6 m c (ix1 o)) (fun i p => arg0 m c (ix3 b i p)) d l

/-- The reduced distance from the feature vector at `(b, l)` to codebook row `k`. -/
def near (b : Fin 64) (l : Fin 512) (k : Fin 1024) : EReal :=
  (∑ d : Fin 256, arg7 m c (ix2 k d) * arg7 m c (ix2 k d)) + ∑ d : Fin 256, enc m c b d l * ((-2 : EReal) * arg7 m c (ix2 k d))

/-- The kernel's result at sample `b` and position `l` is the first codebook row at which the reduced distance is least. -/
theorem block_apply (t j : Fin 8) (hb : 8 * t.val + j.val < 64) (l : Fin 512) (k₀ : Fin 1024)
    (hk : IsFirstMin (near m c ⟨8 * t.val + j.val, hb⟩ l) k₀) :
    shapeCast S64x512 (blocks m c) shapeCasts_S8x8x512_S64x512 (ix2 ⟨8 * t.val + j.val, hb⟩ l) = BitVec.ofNat 32 k₀.val := by
  rw [shapeCast_apply _ _ _ (ix3 t j l) (by simp [Shape.rowMajor_val_two, Shape.rowMajor_val_three, ix2, ix3]; omega)]
  show point m c t (ix3 0 j l) = _
  refine out_apply _ _ _ _ _ _ _ _ _ (fun o i t => arg1 m c (ix3 o i t)) (fun o i t => arg3 m c (ix3 o i t)) (fun o i t => arg5 m c (ix3 o i t))
    (fun s i o => (blk1 m c t _ o).trans (prep_v1 m c s i o)) (fun s i o => (blk3 m c t _ o).trans (prep_v3 m c s i o))
    (fun s i o => (blk5 m c t _ o).trans (prep_v5 m c s i o)) j l k₀ ?_
  have e2 : (fun o => (iblk m c 2 t : FVec Ideal S1x512 .f32) (ix2 0 o)) = fun o => arg2 m c (ix1 o) :=
    funext fun o => (blk2 m c t 0 o).trans (prep_v12 m c o)
  have e4 : (fun o => (iblk m c 4 t : FVec Ideal S1x512 .f32) (ix2 0 o)) = fun o => arg4 m c (ix1 o) :=
    funext fun o => (blk4 m c t 0 o).trans (prep_v13 m c o)
  have e6 : (fun o => (iblk m c 6 t : FVec Ideal S1x256 .f32) (ix2 0 o)) = fun o => arg6 m c (ix1 o) :=
    funext fun o => (blk6 m c t 0 o).trans (prep_v14 m c o)
  have e0 : (fun i p => (iblk m c 0 t : FVec Ideal S8x4x2048 .f32) (ix3 j i p)) = fun i p => arg0 m c (ix3 ⟨8 * t.val + j.val, hb⟩ i p) :=
    funext fun i => funext fun p => blk0 m c t j i p
  rw [e2, e4, e6, e0]
  have e : near m c ⟨8 * t.val + j.val, hb⟩ l = fun k => (show EReal from (iblk m c 8 t : FVec Ideal S1x1024 .f32) (ix2 0 k))
      + ∑ d : Fin 256, enc m c ⟨8 * t.val + j.val, hb⟩ d l * (show EReal from (iblk m c 7 t : FVec Ideal S256x1024 .f32) (ix2 d k)) := by
    funext k
    unfold near
    rw [(blk8 m c t 0 k).trans (prep_v11 m c k)]
    refine congrArg (_ + ·) (Finset.sum_congr rfl fun d _ => congrArg (fun y : EReal => enc m c ⟨8 * t.val + j.val, hb⟩ d l * y) ?_)
    exact ((blk7 m c t d k).trans (prep_v8 m c d k)).symm
  rw [e] at hk
  exact hk

/-- The same at any sample. -/
theorem result_apply (b : Fin 64) (l : Fin 512) (k₀ : Fin 1024) (hk : IsFirstMin (near m c b l) k₀) :
    shapeCast S64x512 (blocks m c) shapeCasts_S8x8x512_S64x512 (ix2 b l) = BitVec.ofNat 32 k₀.val := by
  have hlt : 8 * (b.val / 8) + b.val % 8 < 64 := by omega
  have e : b = ⟨8 * (b.val / 8) + b.val % 8, hlt⟩ := Fin.ext (by simp only; omega)
  have h := block_apply m c ⟨b.val / 8, by omega⟩ ⟨b.val % 8, by omega⟩ hlt l k₀
  rw [← e] at h
  exact h hk

end Cert.KernelIdeal.Layers

end
-- ==== Proof.RefVal.lean ====
/-
  THE REFERENCE'S LAYERS AT AN INDEX (untrusted): each layer of the reference, read at one batch, one channel and one position, is the
  convolution of `Spec.lean`.
-/
module

public import proofs.«01_k».proof.Proof.Spec
public import proofs.«01_k».proof.Proof.RefRun
public import Idealize.ShloMosaic.PureOps.Ideal.Laws
public import Idealize.ShloMosaic.Lib.Pointwise
public import Idealize.ShloMosaic.Lib.KernelVsHost

@[expose] public section

noncomputable section

namespace Cert.ReferenceIdeal.Layers

open Cert.ReferenceIdeal Cert.ReferenceIdeal.Gen Idealize.ShloMosaic Idealize.SL.Sem Cert.Enc

/-- The integer zero, converted, is zero. -/
theorem zero_apply (i : S_.Idx) : (sitofp .f32 (constantI S_ 32 0#32) : FVec Ideal S_ .f32) i = 0 := by
  show (((0#32).toInt : ℝ) : EReal) = 0
  simp

/-- A host pad of one on either side of the last of three axes, read at a position. -/
theorem pad_apply {B C n N : ℕ} (hN : N = n + 2) (x : Shape.Idx ⟨3, ![B, C, n]⟩ → EReal) (v : S_.Idx → EReal) (hv : ∀ i, v i = 0)
    (h : Shape.Pads ⟨3, ![B, C, n]⟩ ![0, 0, 1] ![0, 0, 1] ![0, 0, 0] ⟨3, ![B, C, N]⟩) (hu : 0 < S_.numel) (b : Fin B) (c : Fin C) (p : Fin N) :
    pad ⟨3, ![B, C, N]⟩ ![0, 0, 1] ![0, 0, 1] ![0, 0, 0] x v h hu (ix3 b c p) = padded (fun q => x (ix3 b c q)) p.val := by
  by_cases hp : 1 ≤ p.val ∧ p.val ≤ n
  · rw [padded_of _ p.val ⟨p.val - 1, by omega⟩ (by simp only; omega)]
    refine pad_apply_of_inside _ _ _ x v h hu _ _ fun a => ?_
    fin_cases a
    · show b.val = 0 + b.val * (0 + 1); omega
    · show c.val = 0 + c.val * (0 + 1); omega
    · show p.val = 1 + (p.val - 1) * (0 + 1); omega
  · have h0 : padded (fun q => x (ix3 b c q)) p.val = 0 := by unfold padded; rw [dif_neg hp]
    rw [h0, pad_apply_of_not_inside _ _ _ x v h hu _ 2 (fun hh => hp ?_), hv]
    have h1 : 1 ≤ p.val := hh.1
    have h2 : (p.val - 1) / (0 + 1) < n := hh.2.2
    rw [Nat.zero_add, Nat.div_one] at h2
    omega

/-- The padded signal at a position. -/
theorem pad1_apply (x : FVec Ideal S64x4x2048 .f32) (b : Fin 64) (c : Fin 4) (p : Fin 2050) :
    pad1 (F := Ideal) x (ix3 b c p) = padded (fun q => x (ix3 b c q)) p.val := by
  unfold pad1
  exact pad_apply rfl x _ zero_apply _ _ b c p

/-- One tap of convolution 1. -/
theorem tap1_apply (xp : FVec Ideal S64x4x2050 .f32) (w : FVec Ideal S512x4x4 .f32) (t : ℕ) (ht : t < 4) (hw) (hx) (b : Fin 64) (o : Fin 512)
    (l : Fin 1024) : tap1 (F := Ideal) xp w t hw hx (ix3 b o l) = ∑ c : Fin 4, w (ix3 o c ⟨t, ht⟩) * xp (ix3 b c ⟨2 * l.val + t, by omega⟩) := by
  unfold tap1
  pointwise
  refine Finset.sum_congr rfl fun c _ => congrArg (_ * ·) (congrArg xp (congrArg (ix3 b c) (Fin.ext ?_)))
  simp only; omega

/-- The first layer. -/
theorem layer1_apply (x : FVec Ideal S64x4x2048 .f32) (w : FVec Ideal S512x4x4 .f32) (b' : FVec Ideal S512 .f32) (b : Fin 64) (o : Fin 512)
    (l : Fin 1024) : layer1 (F := Ideal) x w b' (ix3 b o l)
      = conv4 (fun o c t => w (ix3 o c t)) (fun o => b' (ix1 o)) (fun c p => x (ix3 b c p)) o l := by
  unfold layer1
  pointwise
  rw [tap1_apply _ w 0 (by omega), tap1_apply _ w 1 (by omega), tap1_apply _ w 2 (by omega), tap1_apply _ w 3 (by omega)]
  simp only [pad1_apply]
  rfl

/-- The padded signal at a position. -/
theorem pad2_apply (x : FVec Ideal S64x512x1024 .f32) (b : Fin 64) (c : Fin 512) (p : Fin 1026) :
    pad2 (F := Ideal) x (ix3 b c p) = padded (fun q => x (ix3 b c q)) p.val := by
  unfold pad2
  exact pad_apply rfl x _ zero_apply _ _ b c p

/-- One tap of convolution 2. -/
theorem tap2_apply (xp : FVec Ideal S64x512x1026 .f32) (w : FVec Ideal S512x512x4 .f32) (t : ℕ) (ht : t < 4) (hw) (hx) (b : Fin 64) (o : Fin 512)
    (l : Fin 512) : tap2 (F := Ideal) xp w t hw hx (ix3 b o l) = ∑ c : Fin 512, w (ix3 o c ⟨t, ht⟩) * xp (ix3 b c ⟨2 * l.val + t, by omega⟩) := by
  unfold tap2
  pointwise
  refine Finset.sum_congr rfl fun c _ => congrArg (_ * ·) (congrArg xp (congrArg (ix3 b c) (Fin.ext ?_)))
  simp only; omega

/-- The second layer. -/
theorem layer2_apply (h : FVec Ideal S64x512x1024 .f32) (w : FVec Ideal S512x512x4 .f32) (b' : FVec Ideal S512 .f32) (b : Fin 64) (o : Fin 512)
    (l : Fin 512) : layer2 (F := Ideal) (taps2 (F := Ideal) h w) b' (ix3 b o l)
      = conv4 (fun o c t => w (ix3 o c t)) (fun o => b' (ix1 o)) (fun c p => h (ix3 b c p)) o l := by
  unfold layer2 taps2
  pointwise
  rw [tap2_apply _ w 0 (by omega), tap2_apply _ w 1 (by omega), tap2_apply _ w 2 (by omega), tap2_apply _ w 3 (by omega)]
  simp only [pad2_apply]
  rfl

/-- The padded signal at a position. -/
theorem pad3_apply (x : FVec Ideal S64x512x512 .f32) (b : Fin 64) (c : Fin 512) (p : Fin 514) :
    pad3 (F := Ideal) x (ix3 b c p) = padded (fun q => x (ix3 b c q)) p.val := by
  unfold pad3
  exact pad_apply rfl x _ zero_apply _ _ b c p

/-- One tap of convolution 3. -/
theorem tap3_apply (xp : FVec Ideal S64x512x514 .f32) (w : FVec Ideal S256x512x3 .f32) (t : ℕ) (ht : t < 3) (hw) (hx) (b : Fin 64) (o : Fin 256)
    (l : Fin 512) : tap3 (F := Ideal) xp w t hw hx (ix3 b o l) = ∑ c : Fin 512, w (ix3 o c ⟨t, ht⟩) * xp (ix3 b c ⟨l.val + t, by omega⟩) := by
  unfold tap3
  pointwise
  refine Finset.sum_congr rfl fun c _ => congrArg (_ * ·) (congrArg xp (congrArg (ix3 b c) (Fin.ext ?_)))
  simp only; omega

/-- The third layer. -/
theorem layer3_apply (h : FVec Ideal S64x512x512 .f32) (w : FVec Ideal S256x512x3 .f32) (b' : FVec Ideal S256 .f32) (b : Fin 64) (l : Fin 512)
    (o : Fin 256) : layer3 (F := Ideal) h w b' (ix3 b l o)
      = conv3 (fun o c t => w (ix3 o c t)) (fun o => b' (ix1 o)) (fun c p => h (ix3 b c p)) o l := by
  unfold layer3
  pointwise
  rw [tap3_apply _ w 0 (by omega), tap3_apply _ w 1 (by omega), tap3_apply _ w 2 (by omega)]
  simp only [pad3_apply]
  rfl

/-- The factor of the cross term is two. -/
theorem two_bits : Ideal.ofBits .f32 0x40000000#32 = 2 := by
  simp [Ideal.ofBits, Ideal.ieee]
  rw [← EReal.coe_mul]; norm_num
  rfl

/-- The distances. -/
theorem dists_apply (z : FVec Ideal S64x512x256 .f32) (cb : FVec Ideal S1024x256 .f32) (b : Fin 64) (l : Fin 512) (k : Fin 1024) :
    dists (F := Ideal) z cb (ix3 b l k) =
      ((∑ d : Fin 256, z (ix3 b l d) * z (ix3 b l d)) - (2 : EReal) * (∑ d : Fin 256, z (ix3 b l d) * cb (ix2 k d)))
        + ∑ d : Fin 256, cb (ix2 k d) * cb (ix2 k d) := by
  unfold dists
  pointwise
  rw [two_bits]

end Cert.ReferenceIdeal.Layers

end
-- ==== Proof.Finite.lean ====
/-
  THE PRECONDITION READ BACK (untrusted): under it every element of every argument is a real number.
-/
module

public import proofs.«01_k».proof.Pre_finite_no_tie
public import Idealize.ShloMosaic.Lib.Pointwise
public import Idealize.ShloMosaic.Lib.ReduceAll

@[expose] public section

noncomputable section

/-- An extended real that is a real number. -/
def Cert.Enc.IsReal (a : EReal) : Prop := ∃ r : ℝ, a = r

namespace Cert.Pre_finite_no_tie

open Idealize.ShloMosaic Cert.Enc

/-- There is one index of rank zero. -/
instance : Subsingleton S_.Idx := ⟨fun _ _ => funext fun a => a.elim0⟩

/-- The index of rank zero. -/
def o : S_.Idx := fun a => a.elim0

/-- The bits of the infinity are the infinity. -/
theorem inf_bits : Ideal.ofBits .f32 0x7F800000#32 = ⊤ := by simp [Ideal.ofBits, Ideal.ieee]

/-- A value of absolute value below the infinity is a real number. -/
theorem real_of_lt (x : EReal) (h : Ideal.cmp .olt (max x (-x)) ⊤ = 1#1) : IsReal x := by
  induction x using EReal.rec with
  | coe r => exact ⟨r, rfl⟩
  | bot => simp [Ideal.cmp] at h
  | top => simp [Ideal.cmp] at h

/-- The same of an array compared with a splat of the infinity. -/
theorem real_of_cmpf {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) : IsReal (x i) := by
  refine real_of_lt (x i) ?_
  rw [← inf_bits]
  exact h

/-- An array all of whose absolute values are below the infinity holds real numbers. -/
theorem real_of_all {s : Shape} {axes : List (Fin s.rank)} (hb : S_.BroadcastsInDim s (![] : Fin 0 → Fin s.rank)) (x : FVec Ideal s .f32)
    (hr : s.ReducesTo axes S_) (hu : 0 < S_.numel)
    (h : Host.reduce IntOp.andi (cmpf .olt (Host.absf x) (broadcastInDim s ![] hb (constant S_ .f32 0x7F800000#32))) (constantI S_ 1 1#1) hr hu o = 1#1)
    (i : s.Idx) : IsReal (x i) :=
  real_of_cmpf hb x i (Host.reduce_andi_all _ _ _ _ o h i)

variable [Facts]

/-- The last part of the predicate. -/
theorem part7 (v102 : IVec S64x512 32) (v136 v140 : IVec S_ 1) (h : fn_part7 (F := Ideal) v102 v136 v140 = fun _ => 1#1) : v136 o = 1#1 ∧ v140 o = 1#1 := by
  have h0 := congrFun h (ix2 0 0)
  unfold fn_part7 at h0
  have h1 := (IntOp.andi_eq_one.1 h0).2
  have h2 : andi v136 v140 o = 1#1 := by
    rw [← h1]
    exact congrArg (andi v136 v140) (Subsingleton.elim _ _)
  exact IntOp.andi_eq_one.1 h2

/-- The part before it. -/
theorem part6 (a5 : FVec Ideal S256x512x3 .f32) (a6 : FVec Ideal S256 .f32) (a7 : FVec Ideal S1024x256 .f32) (v102 : IVec S64x512 32) (v121 : IVec S_ 1)
    (v122 v123 : FVec Ideal S512 .f32) (h : fn_part6 (F := Ideal) a5 a6 a7 v102 v121 v122 v123 = fun _ => 1#1) :
    v121 o = 1#1 ∧ (∀ i, cmpf .olt v122 v123 i = 1#1) ∧ (∀ i, IsReal (a5 i)) ∧ (∀ i, IsReal (a6 i)) ∧ ∀ i, IsReal (a7 i) := by
  unfold fn_part6 at h
  obtain ⟨h136, h140⟩ := part7 _ _ _ h
  obtain ⟨h131, h135⟩ := IntOp.andi_eq_one.1 h136
  obtain ⟨h126, h130⟩ := IntOp.andi_eq_one.1 h131
  obtain ⟨h121, h125⟩ := IntOp.andi_eq_one.1 h126
  exact ⟨h121, Host.reduce_andi_all _ _ _ _ o h125, real_of_all _ _ _ _ h130, real_of_all _ _ _ _ h135, real_of_all _ _ _ _ h140⟩

/-- The part before it. -/
theorem part5 (a1 : FVec Ideal S512x4x4 .f32) (a2 : FVec Ideal S512 .f32) (a3 : FVec Ideal S512x512x4 .f32) (a4 : FVec Ideal S512 .f32)
    (a5 : FVec Ideal S256x512x3 .f32) (a6 : FVec Ideal S256 .f32) (a7 : FVec Ideal S1024x256 .f32) (v102 : IVec S64x512 32) (v106 : IVec S_ 1)
    (h : fn_part5 (F := Ideal) a1 a2 a3 a4 a5 a6 a7 v102 v106 = fun _ => 1#1) :
    v106 o = 1#1 ∧ (∀ i, IsReal (a1 i)) ∧ (∀ i, IsReal (a2 i)) ∧ (∀ i, IsReal (a3 i)) ∧ (∀ i, IsReal (a4 i)) ∧ (∀ i, IsReal (a5 i)) ∧ (∀ i, IsReal (a6 i))
      ∧ ∀ i, IsReal (a7 i) := by
  unfold fn_part5 at h
  obtain ⟨h121, h124, h5, h6, h7⟩ := part6 _ _ _ _ _ _ _ h
  obtain ⟨h116, h120⟩ := IntOp.andi_eq_one.1 h121
  obtain ⟨h111, h115⟩ := IntOp.andi_eq_one.1 h116
  obtain ⟨h106, h110⟩ := IntOp.andi_eq_one.1 h111
  exact ⟨h106, real_of_all _ _ _ _ h110, real_of_all _ _ _ _ h115, real_of_all _ _ _ _ h120, fun i => real_of_cmpf _ _ i (h124 i), h5, h6, h7⟩

/-- The part before it. -/
theorem part4 (a0 : FVec Ideal S64x4x2048 .f32) (a1 : FVec Ideal S512x4x4 .f32) (a2 : FVec Ideal S512 .f32) (a3 : FVec Ideal S512x512x4 .f32)
    (a4 : FVec Ideal S512 .f32) (a5 : FVec Ideal S256x512x3 .f32) (a6 : FVec Ideal S256 .f32) (a7 : FVec Ideal S1024x256 .f32)
    (v86 : FVec Ideal S64x512x1 .f32) (v87 : FVec Ideal S64x512x1024 .f32) (v5 : FVec Ideal S_ .f32)
    (h : fn_part4 (F := Ideal) a0 a1 a2 a3 a4 a5 a6 a7 v86 v87 v5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ ∀ i, IsReal (a7 i) := by
  unfold fn_part4 at h
  obtain ⟨h106, hs⟩ := part5 _ _ _ _ _ _ _ _ _ h
  exact ⟨real_of_all _ _ _ _ h106, hs⟩

/-- Under the precondition every argument holds real numbers. -/
theorem reals (a0 : FVec Ideal S64x4x2048 .f32) (a1 : FVec Ideal S512x4x4 .f32) (a2 : FVec Ideal S512 .f32) (a3 : FVec Ideal S512x512x4 .f32)
    (a4 : FVec Ideal S512 .f32) (a5 : FVec Ideal S256x512x3 .f32) (a6 : FVec Ideal S256 .f32) (a7 : FVec Ideal S1024x256 .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ ∀ i, IsReal (a7 i) := by
  unfold fn fn_part1 fn_part2 fn_part3 at h
  exact part4 _ _ _ _ _ _ _ _ _ _ _ h

end Cert.Pre_finite_no_tie

end
-- ==== Proof.Reals.lean ====
/-
  REAL NUMBERS THROUGH THE LAYERS (untrusted): the layers take real numbers to real numbers, and on real numbers the reduced distance
  orders the codebook rows as the squared distance does.
-/
module

public import proofs.«01_k».proof.Proof.Finite
public import proofs.«01_k».proof.Proof.KBlock

@[expose] public section

noncomputable section

namespace Cert.Enc

open Idealize.ShloMosaic

/-- A sum of real numbers taken among the extended reals. -/
theorem sum_coe {n : ℕ} (g : Fin n → ℝ) : ∑ i, (g i : EReal) = ((∑ i, g i : ℝ) : EReal) := by
  refine Finset.induction_on (Finset.univ : Finset (Fin n)) rfl fun a t ha ih => ?_
  rw [Finset.sum_insert ha, Finset.sum_insert ha, EReal.coe_add, ih]

/-- Zero is a real number. -/
theorem IsReal.zero : IsReal 0 := ⟨0, rfl⟩
/-- A sum of two real numbers is one. -/
theorem IsReal.add {a b : EReal} (ha : IsReal a) (hb : IsReal b) : IsReal (a + b) := by
  obtain ⟨r, rfl⟩ := ha; obtain ⟨s, rfl⟩ := hb
  exact ⟨r + s, (EReal.coe_add r s).symm⟩
/-- A product of two real numbers is one. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩
/-- The larger of two real numbers is one. -/
theorem IsReal.max {a b : EReal} (ha : IsReal a) (hb : IsReal b) : IsReal (max a b) := by
  rcases max_choice a b with h | h <;> rw [h] <;> assumption
/-- A finite sum of real numbers is one. -/
theorem IsReal.sum {n : ℕ} {f : Fin n → EReal} (hf : ∀ i, IsReal (f i)) : IsReal (∑ i, f i) := by
  choose g hg using hf
  refine ⟨∑ i, g i, ?_⟩
  rw [← sum_coe]
  exact Finset.sum_congr rfl fun i _ => hg i

/-- A padded real signal is real. -/
theorem IsReal.padded {n : ℕ} {f : Fin n → EReal} (hf : ∀ i, IsReal (f i)) (p : ℕ) : IsReal (padded f p) := by
  unfold Enc.padded
  split
  · exact hf _
  · exact .zero

/-- A four-tap layer of real weights at a real signal is real. -/
theorem IsReal.conv4 {ci co n m : ℕ} {w : Fin co → Fin ci → Fin 4 → EReal} {b : Fin co → EReal} {x : Fin ci → Fin n → EReal}
    (hw : ∀ o c t, IsReal (w o c t)) (hb : ∀ o, IsReal (b o)) (hx : ∀ c p, IsReal (x c p)) (o : Fin co) (l : Fin m) : IsReal (conv4 w b x o l) := by
  have tap : ∀ (t : Fin 4) (p : ℕ), IsReal (∑ c, w o c t * Enc.padded (x c) p) := fun t p => .sum fun c => (hw o c t).mul (.padded (hx c) p)
  exact (((((tap 0 _).add (tap 1 _)).add (tap 2 _)).add (tap 3 _)).add (hb o)).max .zero

/-- A three-tap layer of real weights at a real signal is real. -/
theorem IsReal.conv3 {ci co n m : ℕ} {w : Fin co → Fin ci → Fin 3 → EReal} {b : Fin co → EReal} {x : Fin ci → Fin n → EReal}
    (hw : ∀ o c t, IsReal (w o c t)) (hb : ∀ o, IsReal (b o)) (hx : ∀ c p, IsReal (x c p)) (o : Fin co) (l : Fin m) : IsReal (conv3 w b x o l) := by
  have tap : ∀ (t : Fin 3) (p : ℕ), IsReal (∑ c, w o c t * Enc.padded (x c) p) := fun t p => .sum fun c => (hw o c t).mul (.padded (hx c) p)
  exact (((tap 0 _).add (tap 1 _)).add (tap 2 _)).add (hb o)

/-- The squared distance of a feature vector from a codebook row, in the reference's grouping. -/
def dist {n : ℕ} (z cb : Fin n → EReal) : EReal := ((∑ d, z d * z d) - (2 : EReal) * (∑ d, z d * cb d)) + ∑ d, cb d * cb d

/-- The reduced distance, in the kernel's grouping: the squared norm of the row and the product with `-2` times the row. -/
def reduced {n : ℕ} (z cb : Fin n → EReal) : EReal := (∑ d, cb d * cb d) + ∑ d, z d * ((-2 : EReal) * cb d)

/-- At real numbers the squared distance is the reduced distance and the squared norm of the feature vector, which does not depend on the row. -/
theorem dist_reduced {n : ℕ} {z : Fin n → EReal} (hz : ∀ d, IsReal (z d)) :
    ∃ s : ℝ, ∀ cb : Fin n → EReal, (∀ d, IsReal (cb d)) → ∃ r : ℝ, reduced z cb = r ∧ dist z cb = ((s + r : ℝ) : EReal) := by
  choose u hu using hz
  obtain rfl : z = fun d => (u d : EReal) := funext hu
  refine ⟨∑ d, u d * u d, fun cb hcb => ?_⟩
  choose v hv using hcb
  obtain rfl : cb = fun d => (v d : EReal) := funext hv
  refine ⟨(∑ d, v d * v d) + ∑ d, u d * ((-2) * v d), ?_, ?_⟩
  · unfold reduced
    have h2 : (-2 : EReal) = ((-2 : ℝ) : EReal) := by rw [EReal.coe_neg]; rfl
    rw [h2]
    simp only [← EReal.coe_mul, sum_coe, ← EReal.coe_add]
  · unfold dist
    have h2 : (2 : EReal) = ((2 : ℝ) : EReal) := by norm_cast
    rw [h2]
    simp only [← EReal.coe_mul, sum_coe, ← EReal.coe_add, ← EReal.coe_sub]
    refine congrArg _ ?_
    have e : ∑ d, u d * ((-2) * v d) = -(2 * ∑ d, u d * v d) := by
      rw [Finset.mul_sum, ← Finset.sum_neg_distrib]
      exact Finset.sum_congr rfl fun d _ => by ring
    rw [e]; ring

end Cert.Enc

end
-- ==== Proof.RefResult.lean ====
/-
  THE REFERENCE'S RESULT (untrusted): the chosen codebook row at a sample and a position, for arguments that are real numbers.
-/
module

public import proofs.«01_k».proof.Proof.RefVal
public import proofs.«01_k».proof.Proof.ArgMin
public import proofs.«01_k».proof.Proof.Reals

@[expose] public section

noncomputable section

namespace Cert.ReferenceIdeal.Layers

open Cert.ReferenceIdeal Idealize.ShloMosaic Cert.Enc

variable (x0 : FVec Ideal S64x4x2048 .f32) (x1 : FVec Ideal S512x4x4 .f32) (x2 : FVec Ideal S512 .f32) (x3 : FVec Ideal S512x512x4 .f32)
  (x4 : FVec Ideal S512 .f32) (x5 : FVec Ideal S256x512x3 .f32) (x6 : FVec Ideal S256 .f32) (x7 : FVec Ideal S1024x256 .f32)

/-- The encoding of sample `b`. -/
def enc (b : Fin 64) (d : Fin 256) (l : Fin 512) : EReal :=
  encode (fun o i t => x1 (ix3 o i t)) (fun o => x2 (ix1 o)) (fun o i t => x3 (ix3 o i t)) (fun o => x4 (ix1 o))
    (fun o i t => x5 (ix3 o i t)) (fun o => x6 (ix1 o)) (fun i p => x0 (ix3 b i p)) d l

/-- The third layer's output is the encoding. -/
theorem features_apply (b : Fin 64) (l : Fin 512) (d : Fin 256) :
    layer3 (F := Ideal) (layer2 (F := Ideal) (taps2 (F := Ideal) (layer1 (F := Ideal) x0 x1 x2) x3) x4) x5 x6 (ix3 b l d) = enc x0 x1 x2 x3 x4 x5 x6 b d l := by
  have e1 := layer1_apply x0 x1 x2 b
  generalize layer1 (F := Ideal) x0 x1 x2 = h1 at e1 ⊢
  have e2 := layer2_apply h1 x3 x4 b
  generalize layer2 (F := Ideal) (taps2 (F := Ideal) h1 x3) x4 = h2 at e2 ⊢
  rw [layer3_apply]
  simp only [e1] at e2
  simp only [e2]
  rfl

/-- The distances read at an index. -/
theorem dist_apply (b : Fin 64) (l : Fin 512) (k : Fin 1024) :
    dists (F := Ideal) (layer3 (F := Ideal) (layer2 (F := Ideal) (taps2 (F := Ideal) (layer1 (F := Ideal) x0 x1 x2) x3) x4) x5 x6) x7 (ix3 b l k)
      = dist (fun d => enc x0 x1 x2 x3 x4 x5 x6 b d l) (fun d => x7 (ix2 k d)) := by
  have e : (fun d => layer3 (F := Ideal) (layer2 (F := Ideal) (taps2 (F := Ideal) (layer1 (F := Ideal) x0 x1 x2) x3) x4) x5 x6 (ix3 b l d)) = fun d => enc x0 x1 x2 x3 x4 x5 x6 b d l :=
    funext fun d => features_apply x0 x1 x2 x3 x4 x5 x6 b l d
  rw [dists_apply, ← e]
  rfl

/-- The encoding is real. -/
theorem enc_real (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (b : Fin 64) (d : Fin 256) (l : Fin 512) : IsReal (enc x0 x1 x2 x3 x4 x5 x6 b d l) :=
  .conv3 (fun _ _ _ => h5 _) (fun _ => h6 _)
    (fun _ _ => .conv4 (fun _ _ _ => h3 _) (fun _ => h4 _) (fun _ _ => .conv4 (fun _ _ _ => h1 _) (fun _ => h2 _) (fun _ _ => h0 _) _ _) _ _) _ _

/-- At real arguments the reference chooses the first codebook row at which the kernel's reduced distance is least. -/
theorem result_apply (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (b : Fin 64) (l : Fin 512) (k₀ : Fin 1024)
    (hk : IsFirstMin (fun k => reduced (fun d => enc x0 x1 x2 x3 x4 x5 x6 b d l) (fun d => x7 (ix2 k d))) k₀) :
    result (F := Ideal) x0 x1 x2 x3 x4 x5 x6 x7 (ix2 b l) = BitVec.ofNat 32 k₀.val := by
  obtain ⟨s, hs⟩ := dist_reduced fun d => enc_real x0 x1 x2 x3 x4 x5 x6 h0 h1 h2 h3 h4 h5 h6 b d l
  have hd := fun k => hs (fun d => x7 (ix2 k d)) fun d => h7 _
  refine nearest_apply _ b l k₀ (hk.of_lt_iff fun i j => ?_) ?_
  · obtain ⟨r, hr, hr'⟩ := hd i
    obtain ⟨q, hq, hq'⟩ := hd j
    rw [dist_apply, dist_apply, hr, hr', hq, hq', EReal.coe_lt_coe_iff, EReal.coe_lt_coe_iff]
    exact (add_lt_add_iff_left s).symm
  · obtain ⟨r, -, hr'⟩ := hd k₀
    rw [dist_apply, hr']
    exact EReal.coe_lt_top _

end Cert.ReferenceIdeal.Layers

end
-- ==== Proof.Agree.lean ====
/-
  THE TWO RESULTS AGREE (untrusted): under the precondition the kernel's array of choices is the reference's.
-/
module

public import proofs.«01_k».proof.Defs
public import proofs.«01_k».proof.Proof.Gen.Pre_finite_no_tie
public import proofs.«01_k».proof.Proof.KRun
public import proofs.«01_k».proof.Proof.RefResult

@[expose] public section

noncomputable section

namespace Cert.Proof

open Idealize.ShloMosaic Idealize.SL.Sem Cert.Enc Cert.KernelIdeal Cert.KernelIdeal.Gen

variable (m : (ℓ : Loc nD τ sig) → Buf (Elt Ideal) ℓ) (c : Dev nD)

/-- The reference's result at the kernel's arguments is the kernel's array of choices. -/
theorem agree [Cert.Pre_finite_no_tie.Facts] (hm : Pre_KernelIdeal m) :
    Cert.ReferenceIdeal.Layers.result (F := Ideal) (Layers.arg0 m c) (Layers.arg1 m c) (Layers.arg2 m c) (Layers.arg3 m c) (Layers.arg4 m c) (Layers.arg5 m c)
        (Layers.arg6 m c) (Layers.arg7 m c)
      = shapeCast S64x512 (Layers.blocks m c) shapeCasts_S8x8x512_S64x512 := by
  obtain ⟨h0, h1, h2, h3, h4, h5, h6, h7⟩ := Cert.Pre_finite_no_tie.reals _ _ _ _ _ _ _ _ (hm c)
  funext i
  obtain ⟨b, l, rfl⟩ : ∃ b l, i = ix2 b l := ⟨i 0, i 1, eq_ix2 i⟩
  obtain ⟨k₀, hk⟩ := exists_firstMin (Layers.near m c b l)
  refine (Cert.ReferenceIdeal.Layers.result_apply _ _ _ _ _ _ _ _ h0 h1 h2 h3 h4 h5 h6 h7 b l k₀ ?_).trans (Layers.result_apply m c b l k₀ hk).symm
  exact hk

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Agree
public import proofs.«01_k».proof.Proof.Gen.Pre_finite_no_tie
public import Idealize.ShloMosaic.Adequacy
public import Idealize.ShloMosaic.Init

@[expose] public section

noncomputable section

namespace Cert.Proof

open Idealize.ShloMosaic Idealize.SL.Sem Cert.Kernel

/-- The reference's frame: it terminates with its arguments unchanged. -/
theorem frame_reference :
    Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩) (Cert.ReferenceIdeal.Layers.run (F := Ideal) m ρ)

/-- The value claim: the kernel's result is the reference's. -/
theorem algebraic [hP : Cert.Pre_finite_no_tie.Facts] :
    Cert.algebraic_KernelIdeal_ReferenceIdeal (hKernelIdeal := Cert.KernelIdeal.Gen.facts) (hReferenceIdeal := Cert.ReferenceIdeal.Gen.facts)
      (hPre_finite_no_tie := hP) := by
  intro m g m' g' hm hagree
  refine ⟨fun c => shapeCast Cert.KernelIdeal.S64x512 (Cert.KernelIdeal.Layers.blocks m c) Cert.KernelIdeal.Gen.shapeCasts_S8x8x512_S64x512,
    Cert.KernelIdeal.Layers.run m g, ?_⟩
  refine (θ_run _ _ _).mono (fun r h c => ⟨(h c).1.trans ?_, (h c).2⟩) (Cert.ReferenceIdeal.Layers.run (F := Ideal) m' g')
  obtain ⟨e0, e1, e2, e3, e4, e5, e6, e7⟩ := hagree c
  rw [e0, e1, e2, e3, e4, e5, e6, e7]
  exact agree m c hm

/-- Every claim of this certificate. -/
theorem claim : Cert.Claim := ⟨Cert.Kernel.Gen.facts, Cert.KernelIdeal.Gen.facts, Cert.ReferenceIdeal.Gen.facts, Cert.Pre_finite_no_tie.Gen.facts,
  fun m ρ _ => Cert.Kernel.Gen.frame m ρ, fun m ρ _ => Cert.Kernel.Gen.frame m ρ, fun m ρ _ => Cert.KernelIdeal.Gen.frame m ρ, frame_reference,
  fun m ρ _ => frame_reference m ρ trivial, trivial, algebraic⟩

end Cert.Proof

end
